-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_head_is_finite [hPre_head_is_finite : Cert.Pre_head_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_head_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_head_is_finite [hPre_head_is_finite : Cert.Pre_head_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_head_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_head_is_finite [hKernelIdeal : Cert.KernelIdeal.Facts] [hPre_head_is_finite : Cert.Pre_head_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_head_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_head_is_finite [hReferenceIdeal : Cert.ReferenceIdeal.Facts] [hPre_head_is_finite : Cert.Pre_head_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_head_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_head_is_finite [hKernelIdeal : Cert.KernelIdeal.Facts] [hReferenceIdeal : Cert.ReferenceIdeal.Facts] [hPre_head_is_finite : Cert.Pre_head_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_head_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v2_1)) (v3 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_head_is_finite : Cert.Pre_head_is_finite.Facts),
    quiescent_Kernel (hKernel := hKernel)
    ∧ quiescent_KernelIdeal (hKernelIdeal := hKernelIdeal)
    ∧ quiescent_KernelIdeal_pre_head_is_finite (hKernelIdeal := hKernelIdeal) (hPre_head_is_finite := hPre_head_is_finite)
    ∧ quiescent_ReferenceIdeal (hReferenceIdeal := hReferenceIdeal)
    ∧ quiescent_ReferenceIdeal_pre_head_is_finite (hReferenceIdeal := hReferenceIdeal) (hPre_head_is_finite := hPre_head_is_finite)
    ∧ preserves_Kernel_KernelIdeal
    ∧ algebraic_KernelIdeal_ReferenceIdeal_pre_head_is_finite (hKernelIdeal := hKernelIdeal) (hReferenceIdeal := hReferenceIdeal) (hPre_head_is_finite := hPre_head_is_finite)
-- ==== Pre_head_is_finite.lean ====
abbrev S64x16x1024 : Shape := ⟨3, ![64, 16, 1024]⟩
abbrev S1024x2048 : Shape := ⟨2, ![1024, 2048]⟩
abbrev S2048 : Shape := ⟨1, ![2048]⟩
abbrev S1024x71680 : Shape := ⟨2, ![1024, 71680]⟩
abbrev S71680 : Shape := ⟨1, ![71680]⟩
abbrev S2x1024x256 : Shape := ⟨3, ![2, 1024, 256]⟩
abbrev S256x512 : Shape := ⟨2, ![256, 512]⟩
abbrev S512 : Shape := ⟨1, ![512]⟩
abbrev S512x512 : Shape := ⟨2, ![512, 512]⟩
abbrev S512x35 : Shape := ⟨2, ![512, 35]⟩
abbrev S35 : Shape := ⟨1, ![35]⟩
abbrev S_ : Shape := ⟨0, ![]⟩

class Facts : Prop where
  bcast_S_S64x16x1024 : S_.BroadcastsInDim S64x16x1024 (![] : Fin 0 → Fin S64x16x1024.rank)
  reducesTo_S64x16x1024_S_d0_1_2 : S64x16x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S64x16x1024 .f32) (main_arg1 : FVec F S1024x2048 .f32) (main_arg2 : FVec F S2048 .f32) (main_arg3 : FVec F S1024x71680 .f32) (main_arg4 : FVec F S71680 .f32) (main_arg5 : FVec F S2x1024x256 .f32) (main_arg6 : FVec F S256x512 .f32) (main_arg7 : FVec F S512 .f32) (main_arg8 : FVec F S512x512 .f32) (main_arg9 : FVec F S512 .f32) (main_arg10 : FVec F S512x35 .f32) (main_arg11 : FVec F S35 .f32) : IVec S_ 1 :=
  let main_v0 : FVec F S64x16x1024 .f32 := Host.absf main_arg0
  let main_cst : FVec F S_ .f32 := constant S_ .f32 0x7F800000#32
  let main_v1 : FVec F S64x16x1024 .f32 := broadcastInDim S64x16x1024 ![] bcast_S_S64x16x1024 main_cst
  let main_v2 : IVec S64x16x1024 1 := cmpf .olt main_v0 main_v1
  let main_c : IVec S_ 1 := constantI S_ 1 1#1
  let main_v3 : IVec S_ 1 := (fun x v => Host.reduce IntOp.andi x v reducesTo_S64x16x1024_S_d0_1_2 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S64x16x1024 : Shape := ⟨3, ![64, 16, 1024]⟩
abbrev S1024x2048 : Shape := ⟨2, ![1024, 2048]⟩
abbrev S2048 : Shape := ⟨1, ![2048]⟩
abbrev S1024x71680 : Shape := ⟨2, ![1024, 71680]⟩
abbrev S71680 : Shape := ⟨1, ![71680]⟩
abbrev S2x1024x256 : Shape := ⟨3, ![2, 1024, 256]⟩
abbrev S256x512 : Shape := ⟨2, ![256, 512]⟩
abbrev S512 : Shape := ⟨1, ![512]⟩
abbrev S512x512 : Shape := ⟨2, ![512, 512]⟩
abbrev S512x35 : Shape := ⟨2, ![512, 35]⟩
abbrev S35 : Shape := ⟨1, ![35]⟩
abbrev S1024x1024 : Shape := ⟨2, ![1024, 1024]⟩
abbrev S1x2048 : Shape := ⟨2, ![1, 2048]⟩
abbrev S1024x2 : Shape := ⟨2, ![1024, 2]⟩
abbrev S256x1024 : Shape := ⟨2, ![256, 1024]⟩
abbrev S256x2048 : Shape := ⟨2, ![256, 2048]⟩
abbrev S256x2 : Shape := ⟨2, ![256, 2]⟩
abbrev S256 : Shape := ⟨1, ![256]⟩
abbrev S256x1 : Shape := ⟨2, ![256, 1]⟩
abbrev S_ : Shape := ⟨0, ![]⟩
abbrev S1x71680 : Shape := ⟨2, ![1, 71680]⟩
abbrev S1024x35 : Shape := ⟨2, ![1024, 35]⟩
abbrev S1024x1280 : Shape := ⟨2, ![1024, 1280]⟩
abbrev S1x1280 : Shape := ⟨2, ![1, 1280]⟩
abbrev S1024x1 : Shape := ⟨2, ![1024, 1]⟩
abbrev S1280x35 : Shape := ⟨2, ![1280, 35]⟩
abbrev S2048x256 : Shape := ⟨2, ![2048, 256]⟩
abbrev S2048x35 : Shape := ⟨2, ![2048, 35]⟩
abbrev S1x512 : Shape := ⟨2, ![1, 512]⟩
abbrev S1x35 : Shape := ⟨2, ![1, 35]⟩
abbrev S1024x256 : Shape := ⟨2, ![1024, 256]⟩
abbrev S1024x512 : Shape := ⟨2, ![1024, 512]⟩
abbrev S1024x2x1024 : Shape := ⟨3, ![1024, 2, 1024]⟩
abbrev S64x16x35 : Shape := ⟨3, ![64, 16, 35]⟩
abbrev S1024x5x7 : Shape := ⟨3, ![1024, 5, 7]⟩

abbrev nBuf : Space → Nat
  | .hbm => 48
  | .vmem => 27
  | .smem => 0
  | _ => 0

abbrev bufTy : (tb : Table) → Fin (tcTables nBuf tb) → BufTy
  | .hbm, ⟨0, _⟩ => ⟨S64x16x1024, .f32⟩
  | .hbm, ⟨1, _⟩ => ⟨S1024x2048, .f32⟩
  | .hbm, ⟨2, _⟩ => ⟨S2048, .f32⟩
  | .hbm, ⟨3, _⟩ => ⟨S1024x71680, .f32⟩
  | .hbm, ⟨4, _⟩ => ⟨S71680, .f32⟩
  | .hbm, ⟨5, _⟩ => ⟨S2x1024x256, .f32⟩
  | .hbm, ⟨6, _⟩ => ⟨S256x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x35, .f32⟩
  | .hbm, ⟨11, _⟩ => ⟨S35, .f32⟩
  | .hbm, ⟨12, _⟩ => ⟨S1024x1024, .f32⟩
  | .hbm, ⟨13, _⟩ => ⟨S1x2048, .f32⟩
  | .hbm, ⟨14, _⟩ => ⟨S1024x2048, .f32⟩
  | .hbm, ⟨15, _⟩ => ⟨S1024x2, .i32⟩
  | .hbm, ⟨16, _⟩ => ⟨S1024x1024, .bf16⟩
  | .hbm, ⟨17, _⟩ => ⟨S71680, .i32⟩
  | .hbm, ⟨18, _⟩ => ⟨S_, .i32⟩
  | .hbm, ⟨19, _⟩ => ⟨S_, .i32⟩
  | .hbm, ⟨20, _⟩ => ⟨S71680, .i32⟩
  | .hbm, ⟨21, _⟩ => ⟨S71680, .i32⟩
  | .hbm, ⟨22, _⟩ => ⟨S71680, .i32⟩
  | .hbm, ⟨23, _⟩ => ⟨S_, .i32⟩
  | .hbm, ⟨24, _⟩ => ⟨S71680, .i32⟩
  | .hbm, ⟨25, _⟩ => ⟨S71680, .i1⟩
  | .hbm, ⟨26, _⟩ => ⟨S71680, .i32⟩
  | .hbm, ⟨27, _⟩ => ⟨S71680, .i32⟩
  | .hbm, ⟨28, _⟩ => ⟨S_, .i32⟩
  | .hbm, ⟨29, _⟩ => ⟨S71680, .i32⟩
  | .hbm, ⟨30, _⟩ => ⟨S71680, .i1⟩
  | .hbm, ⟨31, _⟩ => ⟨S71680, .i1⟩
  | .hbm, ⟨32, _⟩ => ⟨S_, .i32⟩
  | .hbm, ⟨33, _⟩ => ⟨S71680, .i32⟩
  | .hbm, ⟨34, _⟩ => ⟨S71680, .i32⟩
  | .hbm, ⟨35, _⟩ => ⟨S71680, .i32⟩
  | .hbm, ⟨36, _⟩ => ⟨S1x71680, .i32⟩
  | .hbm, ⟨37, _⟩ => ⟨S1024x35, .f32⟩
  | .hbm, ⟨38, _⟩ => ⟨S2048x256, .f32⟩
  | .hbm, ⟨39, _⟩ => ⟨S2048x35, .f32⟩
  | .hbm, ⟨40, _⟩ => ⟨S1x512, .f32⟩
  | .hbm, ⟨41, _⟩ => ⟨S1x512, .f32⟩
  | .hbm, ⟨42, _⟩ => ⟨S1x35, .f32⟩
  | .hbm, ⟨43, _⟩ => ⟨S1024x35, .f32⟩
  | .hbm, ⟨44, _⟩ => ⟨S1024x35, .f32⟩
  | .hbm, ⟨45, _⟩ => ⟨S1024x2x1024, .f32⟩
  | .hbm, ⟨46, _⟩ => ⟨S64x16x35, .f32⟩
  | .hbm, ⟨47, _⟩ => ⟨S1024x5x7, .f32⟩
  | .local _ .vmem, ⟨0, _⟩ => ⟨S256x1024, .f32⟩
  | .local _ .vmem, ⟨1, _⟩ => ⟨S256x1024, .f32⟩
  | .local _ .vmem, ⟨2, _⟩ => ⟨S1024x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2, .i32⟩
  | .local _ .vmem, ⟨7, _⟩ => ⟨S256x2, .i32⟩
  | .local _ .vmem, ⟨8, _⟩ => ⟨S1024x1024, .bf16⟩
  | .local _ .vmem, ⟨9, _⟩ => ⟨S1024x1280, .f32⟩
  | .local _ .vmem, ⟨10, _⟩ => ⟨S1024x1280, .f32⟩
  | .local _ .vmem, ⟨11, _⟩ => ⟨S1x1280, .i32⟩
  | .local _ .vmem, ⟨12, _⟩ => ⟨S1x1280, .i32⟩
  | .local _ .vmem, ⟨13, _⟩ => ⟨S1024x2, .i32⟩
  | .local _ .vmem, ⟨14, _⟩ => ⟨S1024x35, .f32⟩
  | .local _ .vmem, ⟨15, _⟩ => ⟨S1024x2, .i32⟩
  | .local _ .vmem, ⟨16, _⟩ => ⟨S2048x256, .f32⟩
  | .local _ .vmem, ⟨17, _⟩ => ⟨S2048x35, .f32⟩
  | .local _ .vmem, ⟨18, _⟩ => ⟨S256x512, .f32⟩
  | .local _ .vmem, ⟨19, _⟩ => ⟨S1x512, .f32⟩
  | .local _ .vmem, ⟨20, _⟩ => ⟨S512x512, .f32⟩
  | .local _ .vmem, ⟨21, _⟩ => ⟨S1x512, .f32⟩
  | .local _ .vmem, ⟨22, _⟩ => ⟨S512x35, .f32⟩
  | .local _ .vmem, ⟨23, _⟩ => ⟨S1x35, .f32⟩
  | .local _ .vmem, ⟨24, _⟩ => ⟨S1024x35, .f32⟩
  | .local _ .vmem, ⟨25, _⟩ => ⟨S1024x35, .f32⟩
  | .local _ .vmem, ⟨26, _⟩ => ⟨S1024x35, .f32⟩
  | _, _ => ⟨S64x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13_0 : Ref sig .tc := ⟨.hbm, 43, rfl⟩
abbrev main_v13_1 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg10_0 : Ref sig .tc := ⟨.vmem, 25, rfl⟩
abbrev cc2_stg11_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc2_sem0_0 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem10_0 : DmaSem sig := 25
abbrev cc2_sem11_0 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![56], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1280 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1280 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x2 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x35 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := .none

abbrev stage2_0 : Fin 1 → Memref sig .tc .vmem S1024x2 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2048x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2048x35 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S256x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S512x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S512x35 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x35 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S1024x35 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S1024x35 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S1024x35 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
-- ==== ReferenceIdeal.lean ====
abbrev S64x16x1024 : Shape := ⟨3, ![64, 16, 1024]⟩
abbrev S1024x2048 : Shape := ⟨2, ![1024, 2048]⟩
abbrev S2048 : Shape := ⟨1, ![2048]⟩
abbrev S1024x71680 : Shape := ⟨2, ![1024, 71680]⟩
abbrev S71680 : Shape := ⟨1, ![71680]⟩
abbrev S2x1024x256 : Shape := ⟨3, ![2, 1024, 256]⟩
abbrev S256x512 : Shape := ⟨2, ![256, 512]⟩
abbrev S512 : Shape := ⟨1, ![512]⟩
abbrev S512x512 : Shape := ⟨2, ![512, 512]⟩
abbrev S512x35 : Shape := ⟨2, ![512, 35]⟩
abbrev S35 : Shape := ⟨1, ![35]⟩
abbrev S1024x1024 : Shape := ⟨2, ![1024, 1024]⟩
abbrev S1x2048 : Shape := ⟨2, ![1, 2048]⟩
abbrev S1024x2x1024 : Shape := ⟨3, ![1024, 2, 1024]⟩
abbrev S_ : Shape := ⟨0, ![]⟩
abbrev S1024x2 : Shape := ⟨2, ![1024, 2]⟩
abbrev S1024x2x1 : Shape := ⟨3, ![1024, 2, 1]⟩
abbrev S1x71680 : Shape := ⟨2, ![1, 71680]⟩
abbrev S1024x2x1024x35 : Shape := ⟨4, ![1024, 2, 1024, 35]⟩
abbrev S1024x2x1x1 : Shape := ⟨4, ![1024, 2, 1, 1]⟩
abbrev S1 : Shape := ⟨1, ![1]⟩
abbrev S1x1x1x1 : Shape := ⟨4, ![1, 1, 1, 1]⟩
abbrev S1024x2x1x35 : Shape := ⟨4, ![1024, 2, 1, 35]⟩
abbrev S1024x2x35 : Shape := ⟨3, ![1024, 2, 35]⟩
abbrev S1024x35 : Shape := ⟨2, ![1024, 35]⟩
abbrev S2 : Shape := ⟨1, ![2]⟩
abbrev S1x2 : Shape := ⟨2, ![1, 2]⟩
abbrev S1024x2x2 : Shape := ⟨3, ![1024, 2, 2]⟩
abbrev S1024x2x256 : Shape := ⟨3, ![1024, 2, 256]⟩
abbrev S1024x256 : Shape := ⟨2, ![1024, 256]⟩
abbrev S1024x512 : Shape := ⟨2, ![1024, 512]⟩
abbrev S1x512 : Shape := ⟨2, ![1, 512]⟩
abbrev S1x35 : Shape := ⟨2, ![1, 35]⟩
abbrev S1024x5x7 : Shape := ⟨3, ![1024, 5, 7]⟩
abbrev S64x16x35 : Shape := ⟨3, ![64, 16, 35]⟩

abbrev nBuf : Space → Nat
  | .hbm => 116
  | .vmem => 0
  | .smem => 0
  | _ => 0

abbrev bufTy : (tb : Table) → Fin (tcTables nBuf tb) → BufTy
  | .hbm, ⟨0, _⟩ => ⟨S64x16x1024, .f32⟩
  | .hbm, ⟨1, _⟩ => ⟨S1024x2048, .f32⟩
  | .hbm, ⟨2, _⟩ => ⟨S2048, .f32⟩
  | .hbm, ⟨3, _⟩ => ⟨S1024x71680, .f32⟩
  | .hbm, ⟨4, _⟩ => ⟨S71680, .f32⟩
  | .hbm, ⟨5, _⟩ => ⟨S2x1024x256, .f32⟩
  | .hbm, ⟨6, _⟩ => ⟨S256x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x35, .f32⟩
  | .hbm, ⟨11, _⟩ => ⟨S35, .f32⟩
  | .hbm, ⟨12, _⟩ => ⟨S1024x1024, .f32⟩
  | .hbm, ⟨13, _⟩ => ⟨S1024x2048, .f32⟩
  | .hbm, ⟨14, _⟩ => ⟨S1x2048, .f32⟩
  | .hbm, ⟨15, _⟩ => ⟨S1024x2048, .f32⟩
  | .hbm, ⟨16, _⟩ => ⟨S1024x2048, .f32⟩
  | .hbm, ⟨17, _⟩ => ⟨S1024x2x1024, .f32⟩
  | .hbm, ⟨18, _⟩ => ⟨S_, .f32⟩
  | .hbm, ⟨19, _⟩ => ⟨S1024x2x1024, .f32⟩
  | .hbm, ⟨20, _⟩ => ⟨S1024x2x1024, .f32⟩
  | .hbm, ⟨21, _⟩ => ⟨S_, .f32⟩
  | .hbm, ⟨22, _⟩ => ⟨S1024x2, .f32⟩
  | .hbm, ⟨23, _⟩ => ⟨S_, .f32⟩
  | .hbm, ⟨24, _⟩ => ⟨S1024x2, .f32⟩
  | .hbm, ⟨25, _⟩ => ⟨S1024x2, .f32⟩
  | .hbm, ⟨26, _⟩ => ⟨S1024x2x1, .f32⟩
  | .hbm, ⟨27, _⟩ => ⟨S1024x2x1024, .f32⟩
  | .hbm, ⟨28, _⟩ => ⟨S1024x2x1024, .f32⟩
  | .hbm, ⟨29, _⟩ => ⟨S1024x2x1024, .f32⟩
  | .hbm, ⟨30, _⟩ => ⟨S_, .f32⟩
  | .hbm, ⟨31, _⟩ => ⟨S1024x2, .f32⟩
  | .hbm, ⟨32, _⟩ => ⟨S1024x2x1, .f32⟩
  | .hbm, ⟨33, _⟩ => ⟨S1024x2x1024, .f32⟩
  | .hbm, ⟨34, _⟩ => ⟨S1024x2x1024, .f32⟩
  | .hbm, ⟨35, _⟩ => ⟨S1024x2x1024, .i32⟩
  | .hbm, ⟨36, _⟩ => ⟨S_, .f32⟩
  | .hbm, ⟨37, _⟩ => ⟨S_, .i32⟩
  | .hbm, ⟨38, _⟩ => ⟨S1024x2, .f32⟩
  | .hbm, ⟨39, _⟩ => ⟨S1024x2, .i32⟩
  | .hbm, ⟨40, _⟩ => ⟨S1024x71680, .f32⟩
  | .hbm, ⟨41, _⟩ => ⟨S1x71680, .f32⟩
  | .hbm, ⟨42, _⟩ => ⟨S1024x71680, .f32⟩
  | .hbm, ⟨43, _⟩ => ⟨S1024x71680, .f32⟩
  | .hbm, ⟨44, _⟩ => ⟨S1024x2x1024x35, .f32⟩
  | .hbm, ⟨45, _⟩ => ⟨S1024x2x1x1, .i32⟩
  | .hbm, ⟨46, _⟩ => ⟨S_, .i32⟩
  | .hbm, ⟨47, _⟩ => ⟨S1024x2x1x1, .i32⟩
  | .hbm, ⟨48, _⟩ => ⟨S1024x2x1x1, .i1⟩
  | .hbm, ⟨49, _⟩ => ⟨S_, .i32⟩
  | .hbm, ⟨50, _⟩ => ⟨S1024x2x1x1, .i32⟩
  | .hbm, ⟨51, _⟩ => ⟨S1024x2x1x1, .i32⟩
  | .hbm, ⟨52, _⟩ => ⟨S1024x2x1x1, .i32⟩
  | .hbm, ⟨53, _⟩ => ⟨S1, .i32⟩
  | .hbm, ⟨54, _⟩ => ⟨S_, .i32⟩
  | .hbm, ⟨55, _⟩ => ⟨S1024x2x1x1, .i32⟩
  | .hbm, ⟨56, _⟩ => ⟨S1024x2x1x1, .i1⟩
  | .hbm, ⟨57, _⟩ => ⟨S1x1x1x1, .i32⟩
  | .hbm, ⟨58, _⟩ => ⟨S1024x2x1x1, .i32⟩
  | .hbm, ⟨59, _⟩ => ⟨S1024x2x1x1, .i1⟩
  | .hbm, ⟨60, _⟩ => ⟨S1024x2x1x1, .i1⟩
  | .hbm, ⟨61, _⟩ => ⟨S_, .i1⟩
  | .hbm, ⟨62, _⟩ => ⟨S1024x2x1, .i1⟩
  | .hbm, ⟨63, _⟩ => ⟨S1024x2x1x35, .f32⟩
  | .hbm, ⟨64, _⟩ => ⟨S1024x2x1x35, .i1⟩
  | .hbm, ⟨65, _⟩ => ⟨S_, .f32⟩
  | .hbm, ⟨66, _⟩ => ⟨S1024x2x1x35, .f32⟩
  | .hbm, ⟨67, _⟩ => ⟨S1024x2x1x35, .f32⟩
  | .hbm, ⟨68, _⟩ => ⟨S1024x2x35, .f32⟩
  | .hbm, ⟨69, _⟩ => ⟨S_, .f32⟩
  | .hbm, ⟨70, _⟩ => ⟨S1024x35, .f32⟩
  | .hbm, ⟨71, _⟩ => ⟨S2, .i32⟩
  | .hbm, ⟨72, _⟩ => ⟨S1x2, .i32⟩
  | .hbm, ⟨73, _⟩ => ⟨S_, .i32⟩
  | .hbm, ⟨74, _⟩ => ⟨S1x2, .i32⟩
  | .hbm, ⟨75, _⟩ => ⟨S1x2, .i1⟩
  | .hbm, ⟨76, _⟩ => ⟨S_, .i32⟩
  | .hbm, ⟨77, _⟩ => ⟨S1x2, .i32⟩
  | .hbm, ⟨78, _⟩ => ⟨S1x2, .i32⟩
  | .hbm, ⟨79, _⟩ => ⟨S1x2, .i32⟩
  | .hbm, ⟨80, _⟩ => ⟨S_, .i32⟩
  | .hbm, ⟨81, _⟩ => ⟨S1024x2, .i32⟩
  | .hbm, ⟨82, _⟩ => ⟨S1024x2, .i1⟩
  | .hbm, ⟨83, _⟩ => ⟨S_, .i32⟩
  | .hbm, ⟨84, _⟩ => ⟨S1024x2, .i32⟩
  | .hbm, ⟨85, _⟩ => ⟨S1024x2, .i32⟩
  | .hbm, ⟨86, _⟩ => ⟨S1024x2, .i32⟩
  | .hbm, ⟨87, _⟩ => ⟨S1024x2, .i32⟩
  | .hbm, ⟨88, _⟩ => ⟨S1024x2x1, .i32⟩
  | .hbm, ⟨89, _⟩ => ⟨S1024x2x1, .i32⟩
  | .hbm, ⟨90, _⟩ => ⟨S1024x2x2, .i32⟩
  | .hbm, ⟨91, _⟩ => ⟨S1024x2x256, .f32⟩
  | .hbm, ⟨92, _⟩ => ⟨S_, .f32⟩
  | .hbm, ⟨93, _⟩ => ⟨S1024x256, .f32⟩
  | .hbm, ⟨94, _⟩ => ⟨S1024x512, .f32⟩
  | .hbm, ⟨95, _⟩ => ⟨S1x512, .f32⟩
  | .hbm, ⟨96, _⟩ => ⟨S1024x512, .f32⟩
  | .hbm, ⟨97, _⟩ => ⟨S1024x512, .f32⟩
  | .hbm, ⟨98, _⟩ => ⟨S_, .f32⟩
  | .hbm, ⟨99, _⟩ => ⟨S1024x512, .f32⟩
  | .hbm, ⟨100, _⟩ => ⟨S1024x512, .f32⟩
  | .hbm, ⟨101, _⟩ => ⟨S1024x512, .f32⟩
  | .hbm, ⟨102, _⟩ => ⟨S1x512, .f32⟩
  | .hbm, ⟨103, _⟩ => ⟨S1024x512, .f32⟩
  | .hbm, ⟨104, _⟩ => ⟨S1024x512, .f32⟩
  | .hbm, ⟨105, _⟩ => ⟨S_, .f32⟩
  | .hbm, ⟨106, _⟩ => ⟨S1024x512, .f32⟩
  | .hbm, ⟨107, _⟩ => ⟨S1024x512, .f32⟩
  | .hbm, ⟨108, _⟩ => ⟨S1024x35, .f32⟩
  | .hbm, ⟨109, _⟩ => ⟨S1x35, .f32⟩
  | .hbm, ⟨110, _⟩ => ⟨S1024x35, .f32⟩
  | .hbm, ⟨111, _⟩ => ⟨S1024x35, .f32⟩
  | .hbm, ⟨112, _⟩ => ⟨S1024x5x7, .f32⟩
  | .hbm, ⟨113, _⟩ => ⟨S1024x5x7, .f32⟩
  | .hbm, ⟨114, _⟩ => ⟨S1024x5x7, .f32⟩
  | .hbm, ⟨115, _⟩ => ⟨S64x16x35, .f32⟩
  | _, _ => ⟨S64x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_v0 : Ref sig .tc := ⟨.hbm, 35, rfl⟩
abbrev main_call0_cst : Ref sig .tc := ⟨.hbm, 36, rfl⟩
abbrev main_call0_c : Ref sig .tc := ⟨.hbm, 37, rfl⟩
abbrev main_call0_v1_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_c_2 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_c_3 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v26 : Ref sig .tc := ⟨.hbm, 67, rfl⟩
abbrev main_v27 : Ref sig .tc := ⟨.hbm, 68, rfl⟩
abbrev main_cst_3 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_c : Ref sig .tc := ⟨.hbm, 73, rfl⟩
abbrev main_v31 : Ref sig .tc := ⟨.hbm, 74, rfl⟩
abbrev main_v32 : Ref sig .tc := ⟨.hbm, 75, rfl⟩
abbrev main_c_4 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_c_5 : Ref sig .tc := ⟨.hbm, 80, rfl⟩
abbrev main_v36 : Ref sig .tc := ⟨.hbm, 81, rfl⟩
abbrev main_v37 : Ref sig .tc := ⟨.hbm, 82, rfl⟩
abbrev main_c_6 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_7 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_call2_cst : Ref sig .tc := ⟨.hbm, 98, rfl⟩
abbrev main_call2_v0 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_call3_cst : Ref sig .tc := ⟨.hbm, 105, rfl⟩
abbrev main_call3_v0 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩

abbrev nD : Nat := 1
abbrev τ : Topo := Topo.v7x

variable {F : FTy → Type} [FloatOps F]
-- ==== Proof.RefRun.lean ====
module

public import proofs.«01_k».proof.Defs
public import proofs.«01_k».proof.Proof.Gen.ReferenceIdeal
public import Idealize.ShloMosaic.Lib.Claim

/-!
The reference's run. Its `main` is one straight line of host operations, written here as four stretches, so that what
each stretch computes can be read off by itself (`RefValue.lean`). Every run ends with each buffer at what the four
stretches leave there, and no argument is written.
-/

@[expose] public section

set_option maxRecDepth 16384

noncomputable section

namespace Cert.Reference

open Idealize.ShloMosaic Idealize.SL.Sem
open Cert.ReferenceIdeal Cert.ReferenceIdeal.Facts₀ Cert.ReferenceIdeal.Facts

variable [Cert.ReferenceIdeal.Facts] {F : FTy → Type} [FloatOps F]

/-- The bin head and the sampling: `%0` … `%19`, the call to `argmax` opened. -/
abbrev headOps : List (HloOp τ sig (Elt F)) :=
  [ StableHlo.reshape main_arg0 main_v0 (rfl : (.f32 : EltTy) = .f32) shapeCasts_S64x16x1024_S1024x1024,
    StableHlo.binary main_v0 main_arg1 main_v1 ((fun l r => Host.dotGeneral dot_S1024x1024_S1024x2048_S1024x2048_1_0_0_1_n_n none l r) : (⟨S1024x1024, .f32⟩ : BufTy).Contents (Elt F) → (⟨S1024x2048, .f32⟩ : BufTy).Contents (Elt F) → (⟨S1024x2048, .f32⟩ : BufTy).Contents (Elt F)),
    StableHlo.unary main_arg2 main_v2 (broadcastInDim S1x2048 ![1] bcast_S2048_S1x2048_1 : (⟨S2048, .f32⟩ : BufTy).Contents (Elt F) → (⟨S1x2048, .f32⟩ : BufTy).Contents (Elt F)),
    StableHlo.unary main_v2 main_v3 (broadcastInDim S1024x2048 ![0, 1] bcast_S1x2048_S1024x2048_0_1 : (⟨S1x2048, .f32⟩ : BufTy).Contents (Elt F) → (⟨S1024x2048, .f32⟩ : BufTy).Contents (Elt F)),
    StableHlo.binary main_v1 main_v3 main_v4 (addf : (⟨S1024x2048, .f32⟩ : BufTy).Contents (Elt F) → (⟨S1024x2048, .f32⟩ : BufTy).Contents (Elt F) → (⟨S1024x2048, .f32⟩ : BufTy).Contents (Elt F)),
    StableHlo.reshape main_v4 main_v5 (rfl : (.f32 : EltTy) = .f32) shapeCasts_S1024x2048_S1024x2x1024,
    StableHlo.nullary main_cst (constant S_ .f32 0x3DCCCCCD#32),
    StableHlo.unary main_cst main_v6 (broadcastInDim S1024x2x1024 ![] bcast_S_S1024x2x1024 : (⟨S_, .f32⟩ : BufTy).Contents (Elt F) → (⟨S1024x2x1024, .f32⟩ : BufTy).Contents (Elt F)),
    StableHlo.binary main_v5 main_v6 main_v7 (Host.divf : (⟨S1024x2x1024, .f32⟩ : BufTy).Contents (Elt F) → (⟨S1024x2x1024, .f32⟩ : BufTy).Contents (Elt F) → (⟨S1024x2x1024, .f32⟩ : BufTy).Contents (Elt F)),
    StableHlo.nullary main_cst_0 (constant S_ .f32 0xFF800000#32),
    StableHlo.binary main_v7 main_cst_0 main_v8 ((fun x v => Host.reduce FloatOps.maximumf x v reducesTo_S1024x2x1024_S1024x2_d2 h_S_) : (⟨S1024x2x1024, .f32⟩ : BufTy).Contents (Elt F) → (⟨S_, .f32⟩ : BufTy).Contents (Elt F) → (⟨S1024x2, .f32⟩ : BufTy).Contents (Elt F)),
    StableHlo.nullary main_cst_1 (constant S_ .f32 0xFF800000#32),
    StableHlo.unary main_cst_1 main_v9 (broadcastInDim S1024x2 ![] bcast_S_S1024x2 : (⟨S_, .f32⟩ : BufTy).Contents (Elt F) → (⟨S1024x2, .f32⟩ : BufTy).Contents (Elt F)),
    StableHlo.binary main_v9 main_v8 main_v10 (maximumf : (⟨S1024x2, .f32⟩ : BufTy).Contents (Elt F) → (⟨S1024x2, .f32⟩ : BufTy).Contents (Elt F) → (⟨S1024x2, .f32⟩ : BufTy).Contents (Elt F)),
    StableHlo.unary main_v10 main_v11 (broadcastInDim S1024x2x1 ![0, 1] bcast_S1024x2_S1024x2x1_0_1 : (⟨S1024x2, .f32⟩ : BufTy).Contents (Elt F) → (⟨S1024x2x1, .f32⟩ : BufTy).Contents (Elt F)),
    StableHlo.unary main_v11 main_v12 (broadcastInDim S1024x2x1024 ![0, 1, 2] bcast_S1024x2x1_S1024x2x1024_0_1_2 : (⟨S1024x2x1, .f32⟩ : BufTy).Contents (Elt F) → (⟨S1024x2x1024, .f32⟩ : BufTy).Contents (Elt F)),
    StableHlo.binary main_v7 main_v12 main_v13 (subf : (⟨S1024x2x1024, .f32⟩ : BufTy).Contents (Elt F) → (⟨S1024x2x1024, .f32⟩ : BufTy).Contents (Elt F) → (⟨S1024x2x1024, .f32⟩ : BufTy).Contents (Elt F)),
    StableHlo.unary main_v13 main_v14 (Host.exp : (⟨S1024x2x1024, .f32⟩ : BufTy).Contents (Elt F) → (⟨S1024x2x1024, .f32⟩ : BufTy).Contents (Elt F)),
    StableHlo.nullary main_cst_2 (constant S_ .f32 0x00000000#32),
    StableHlo.binary main_v14 main_cst_2 main_v15 ((fun x v => Host.reduceAdd x v reducesTo_S1024x2x1024_S1024x2_d2 h_S_) : (⟨S1024x2x1024, .f32⟩ : BufTy).Contents (Elt F) → (⟨S_, .f32⟩ : BufTy).Contents (Elt F) → (⟨S1024x2, .f32⟩ : BufTy).Contents (Elt F)),
    StableHlo.unary main_v15 main_v16 (broadcastInDim S1024x2x1 ![0, 1] bcast_S1024x2_S1024x2x1_0_1 : (⟨S1024x2, .f32⟩ : BufTy).Contents (Elt F) → (⟨S1024x2x1, .f32⟩ : BufTy).Contents (Elt F)),
    StableHlo.unary main_v16 main_v17 (broadcastInDim S1024x2x1024 ![0, 1, 2] bcast_S1024x2x1_S1024x2x1024_0_1_2 : (⟨S1024x2x1, .f32⟩ : BufTy).Contents (Elt F) → (⟨S1024x2x1024, .f32⟩ : BufTy).Contents (Elt F)),
    StableHlo.binary main_v14 main_v17 main_v18 (Host.divf : (⟨S1024x2x1024, .f32⟩ : BufTy).Contents (Elt F) → (⟨S1024x2x1024, .f32⟩ : BufTy).Contents (Elt F) → (⟨S1024x2x1024, .f32⟩ : BufTy).Contents (Elt F)),
    StableHlo.TRef.nullary (.of main_call0_v0 : StableHlo.TRef sig ⟨S1024x2x1024, .i32⟩) (iotaInDim S1024x2x1024 32 2),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v18 : StableHlo.TRef sig ⟨S1024x2x1024, .f32⟩) (.of main_call0_v0 : StableHlo.TRef sig ⟨S1024x2x1024, .i32⟩) (.of main_call0_cst : StableHlo.TRef sig ⟨S_, .f32⟩) (.of main_call0_c : StableHlo.TRef sig ⟨S_, .i32⟩) (.of main_call0_v1_0 : StableHlo.TRef sig ⟨S1024x2, .f32⟩) (fun x y u v j => (Host.argReduce reducer_argmax_f32_i32 x y u v reducesTo_S1024x2x1024_S1024x2_d2 h_S_ j).1),
    StableHlo.TRef.quaternary (.of main_v18 : StableHlo.TRef sig ⟨S1024x2x1024, .f32⟩) (.of main_call0_v0 : StableHlo.TRef sig ⟨S1024x2x1024, .i32⟩) (.of main_call0_cst : StableHlo.TRef sig ⟨S_, .f32⟩) (.of main_call0_c : StableHlo.TRef sig ⟨S_, .i32⟩) (.of main_v19 : StableHlo.TRef sig ⟨S1024x2, .i32⟩) (fun x y u v j => (Host.argReduce reducer_argmax_f32_i32 x y u v reducesTo_S1024x2x1024_S1024x2_d2 h_S_ j).2) ]

/-- The offsets head, read at the sampled bins and added over the two groups: `%20` … `%28`, the call to `take_along_axis` opened. -/
abbrev offsetOps : List (HloOp τ sig (Elt F)) :=
  [ StableHlo.binary main_v0 main_arg3 main_v20 ((fun l r => Host.dotGeneral dot_S1024x1024_S1024x71680_S1024x71680_1_0_0_1_n_n none l r) : (⟨S1024x1024, .f32⟩ : BufTy).Contents (Elt F) → (⟨S1024x71680, .f32⟩ : BufTy).Contents (Elt F) → (⟨S1024x71680, .f32⟩ : BufTy).Contents (Elt F)),
    StableHlo.unary main_arg4 main_v21 (broadcastInDim S1x71680 ![1] bcast_S71680_S1x71680_1 : (⟨S71680, .f32⟩ : BufTy).Contents (Elt F) → (⟨S1x71680, .f32⟩ : BufTy).Contents (Elt F)),
    StableHlo.unary main_v21 main_v22 (broadcastInDim S1024x71680 ![0, 1] bcast_S1x71680_S1024x71680_0_1 : (⟨S1x71680, .f32⟩ : BufTy).Contents (Elt F) → (⟨S1024x71680, .f32⟩ : BufTy).Contents (Elt F)),
    StableHlo.binary main_v20 main_v22 main_v23 (addf : (⟨S1024x71680, .f32⟩ : BufTy).Contents (Elt F) → (⟨S1024x71680, .f32⟩ : BufTy).Contents (Elt F) → (⟨S1024x71680, .f32⟩ : BufTy).Contents (Elt F)),
    StableHlo.reshape main_v23 main_v24 (rfl : (.f32 : EltTy) = .f32) shapeCasts_S1024x71680_S1024x2x1024x35,
    StableHlo.unary main_v19 main_v25 (broadcastInDim S1024x2x1x1 ![0, 1] bcast_S1024x2_S1024x2x1x1_0_1 : (⟨S1024x2, .i32⟩ : BufTy).Contents (Elt F) → (⟨S1024x2x1x1, .i32⟩ : BufTy).Contents (Elt F)),
    StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1024x2x1x1, .i32⟩) (broadcastInDim S1024x2x1x1 ![] bcast_S_S1024x2x1x1),
    StableHlo.TRef.binary (.of main_v25 : StableHlo.TRef sig ⟨S1024x2x1x1, .i32⟩) (.of main_call1_v0 : StableHlo.TRef sig ⟨S1024x2x1x1, .i32⟩) (.of main_call1_v1 : StableHlo.TRef sig ⟨S1024x2x1x1, .i1⟩) (cmpi .slt),
    StableHlo.TRef.nullary (.of main_call1_c_0 : StableHlo.TRef sig ⟨S_, .i32⟩) (constantI S_ 32 1024#32),
    StableHlo.TRef.unary (.of main_call1_c_0 : StableHlo.TRef sig ⟨S_, .i32⟩) (.of main_call1_v2 : StableHlo.TRef sig ⟨S1024x2x1x1, .i32⟩) (broadcastInDim S1024x2x1x1 ![] bcast_S_S1024x2x1x1),
    StableHlo.TRef.binary (.of main_v25 : StableHlo.TRef sig ⟨S1024x2x1x1, .i32⟩) (.of main_call1_v2 : StableHlo.TRef sig ⟨S1024x2x1x1, .i32⟩) (.of main_call1_v3 : StableHlo.TRef sig ⟨S1024x2x1x1, .i32⟩) addi,
    StableHlo.TRef.ternary (.of main_call1_v1 : StableHlo.TRef sig ⟨S1024x2x1x1, .i1⟩) (.of main_call1_v3 : StableHlo.TRef sig ⟨S1024x2x1x1, .i32⟩) (.of main_v25 : StableHlo.TRef sig ⟨S1024x2x1x1, .i32⟩) (.of main_call1_v4 : StableHlo.TRef sig ⟨S1024x2x1x1, .i32⟩) select,
    StableHlo.TRef.nullary (.of main_call1_c_1 : StableHlo.TRef sig ⟨S1, .i32⟩) (constantI S1 32 1023#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v5 : StableHlo.TRef sig ⟨S1024x2x1x1, .i32⟩) (broadcastInDim S1024x2x1x1 ![] bcast_S_S1024x2x1x1),
    StableHlo.TRef.binary (.of main_call1_v4 : StableHlo.TRef sig ⟨S1024x2x1x1, .i32⟩) (.of main_call1_v5 : StableHlo.TRef sig ⟨S1024x2x1x1, .i32⟩) (.of main_call1_v6 : StableHlo.TRef sig ⟨S1024x2x1x1, .i1⟩) (cmpi .sge),
    StableHlo.TRef.unary (.of main_call1_c_1 : StableHlo.TRef sig ⟨S1, .i32⟩) (.of main_call1_v7 : StableHlo.TRef sig ⟨S1x1x1x1, .i32⟩) (broadcastInDim S1x1x1x1 ![3] bcast_S1_S1x1x1x1_3),
    StableHlo.TRef.unary (.of main_call1_v7 : StableHlo.TRef sig ⟨S1x1x1x1, .i32⟩) (.of main_call1_v8 : StableHlo.TRef sig ⟨S1024x2x1x1, .i32⟩) (broadcastInDim S1024x2x1x1 ![0, 1, 2, 3] bcast_S1x1x1x1_S1024x2x1x1_0_1_2_3),
    StableHlo.TRef.binary (.of main_call1_v4 : StableHlo.TRef sig ⟨S1024x2x1x1, .i32⟩) (.of main_call1_v8 : StableHlo.TRef sig ⟨S1024x2x1x1, .i32⟩) (.of main_call1_v9 : StableHlo.TRef sig ⟨S1024x2x1x1, .i1⟩) (cmpi .sle),
    StableHlo.TRef.binary (.of main_call1_v6 : StableHlo.TRef sig ⟨S1024x2x1x1, .i1⟩) (.of main_call1_v9 : StableHlo.TRef sig ⟨S1024x2x1x1, .i1⟩) (.of main_call1_v10 : StableHlo.TRef sig ⟨S1024x2x1x1, .i1⟩) andi,
    StableHlo.TRef.nullary (.of main_call1_c_3 : StableHlo.TRef sig ⟨S_, .i1⟩) (constantI S_ 1 1#1),
    StableHlo.TRef.binary (.of main_call1_v10 : StableHlo.TRef sig ⟨S1024x2x1x1, .i1⟩) (.of main_call1_c_3 : StableHlo.TRef sig ⟨S_, .i1⟩) (.of main_call1_v11 : StableHlo.TRef sig ⟨S1024x2x1, .i1⟩) (fun x v => Host.reduce IntOp.andi x v reducesTo_S1024x2x1x1_S1024x2x1_d3 h_S_),
    StableHlo.TRef.binary (.of main_v24 : StableHlo.TRef sig ⟨S1024x2x1024x35, .f32⟩) (.of main_call1_v4 : StableHlo.TRef sig ⟨S1024x2x1x1, .i32⟩) (.of main_call1_v12 : StableHlo.TRef sig ⟨S1024x2x1x35, .f32⟩) (fun x i => Host.gather gather_S1024x2x1024x35_S1024x2x1x1_S1024x2x1x35_3_2_01_01_2_3_11135 x i),
    StableHlo.TRef.unary (.of main_call1_v11 : StableHlo.TRef sig ⟨S1024x2x1, .i1⟩) (.of main_call1_v13 : StableHlo.TRef sig ⟨S1024x2x1x35, .i1⟩) (broadcastInDim S1024x2x1x35 ![0, 1, 2] bcast_S1024x2x1_S1024x2x1x35_0_1_2),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v14 : StableHlo.TRef sig ⟨S1024x2x1x35, .f32⟩) (broadcastInDim S1024x2x1x35 ![] bcast_S_S1024x2x1x35),
    StableHlo.TRef.ternary (.of main_call1_v13 : StableHlo.TRef sig ⟨S1024x2x1x35, .i1⟩) (.of main_call1_v12 : StableHlo.TRef sig ⟨S1024x2x1x35, .f32⟩) (.of main_call1_v14 : StableHlo.TRef sig ⟨S1024x2x1x35, .f32⟩) (.of main_v26 : StableHlo.TRef sig ⟨S1024x2x1x35, .f32⟩) select,
    StableHlo.reshape main_v26 main_v27 (rfl : (.f32 : EltTy) = .f32) shapeCasts_S1024x2x1x35_S1024x2x35,
    StableHlo.nullary main_cst_3 (constant S_ .f32 0x00000000#32),
    StableHlo.binary main_v27 main_cst_3 main_v28 ((fun x v => Host.reduceAdd x v reducesTo_S1024x2x35_S1024x35_d1 h_S_) : (⟨S1024x2x35, .f32⟩ : BufTy).Contents (Elt F) → (⟨S_, .f32⟩ : BufTy).Contents (Elt F) → (⟨S1024x35, .f32⟩ : BufTy).Contents (Elt F)) ]

/-- The sampled codebook rows, added over the two groups: `%29` … `%46`. -/
abbrev embedOps : List (HloOp τ sig (Elt F)) :=
  [ StableHlo.nullary main_v29 (iotaInDim S2 32 0),
    StableHlo.unary main_v29 main_v30 (broadcastInDim S1x2 ![1] bcast_S2_S1x2_1 : (⟨S2, .i32⟩ : BufTy).Contents (Elt F) → (⟨S1x2, .i32⟩ : BufTy).Contents (Elt F)),
    StableHlo.nullary main_c (constantI S_ 32 0#32),
    StableHlo.unary main_c main_v31 (broadcastInDim S1x2 ![] bcast_S_S1x2 : (⟨S_, .i32⟩ : BufTy).Contents (Elt F) → (⟨S1x2, .i32⟩ : BufTy).Contents (Elt F)),
    StableHlo.binary main_v30 main_v31 main_v32 (cmpi .slt : (⟨S1x2, .i32⟩ : BufTy).Contents (Elt F) → (⟨S1x2, .i32⟩ : BufTy).Contents (Elt F) → (⟨S1x2, .i1⟩ : BufTy).Contents (Elt F)),
    StableHlo.nullary main_c_4 (constantI S_ 32 2#32),
    StableHlo.unary main_c_4 main_v33 (broadcastInDim S1x2 ![] bcast_S_S1x2 : (⟨S_, .i32⟩ : BufTy).Contents (Elt F) → (⟨S1x2, .i32⟩ : BufTy).Contents (Elt F)),
    StableHlo.binary main_v30 main_v33 main_v34 (addi : (⟨S1x2, .i32⟩ : BufTy).Contents (Elt F) → (⟨S1x2, .i32⟩ : BufTy).Contents (Elt F) → (⟨S1x2, .i32⟩ : BufTy).Contents (Elt F)),
    StableHlo.ternary main_v32 main_v34 main_v30 main_v35 (select : (⟨S1x2, .i1⟩ : BufTy).Contents (Elt F) → (⟨S1x2, .i32⟩ : BufTy).Contents (Elt F) → (⟨S1x2, .i32⟩ : BufTy).Contents (Elt F) → (⟨S1x2, .i32⟩ : BufTy).Contents (Elt F)),
    StableHlo.nullary main_c_5 (constantI S_ 32 0#32),
    StableHlo.unary main_c_5 main_v36 (broadcastInDim S1024x2 ![] bcast_S_S1024x2 : (⟨S_, .i32⟩ : BufTy).Contents (Elt F) → (⟨S1024x2, .i32⟩ : BufTy).Contents (Elt F)),
    StableHlo.binary main_v19 main_v36 main_v37 (cmpi .slt : (⟨S1024x2, .i32⟩ : BufTy).Contents (Elt F) → (⟨S1024x2, .i32⟩ : BufTy).Contents (Elt F) → (⟨S1024x2, .i1⟩ : BufTy).Contents (Elt F)),
    StableHlo.nullary main_c_6 (constantI S_ 32 1024#32),
    StableHlo.unary main_c_6 main_v38 (broadcastInDim S1024x2 ![] bcast_S_S1024x2 : (⟨S_, .i32⟩ : BufTy).Contents (Elt F) → (⟨S1024x2, .i32⟩ : BufTy).Contents (Elt F)),
    StableHlo.binary main_v19 main_v38 main_v39 (addi : (⟨S1024x2, .i32⟩ : BufTy).Contents (Elt F) → (⟨S1024x2, .i32⟩ : BufTy).Contents (Elt F) → (⟨S1024x2, .i32⟩ : BufTy).Contents (Elt F)),
    StableHlo.ternary main_v37 main_v39 main_v19 main_v40 (select : (⟨S1024x2, .i1⟩ : BufTy).Contents (Elt F) → (⟨S1024x2, .i32⟩ : BufTy).Contents (Elt F) → (⟨S1024x2, .i32⟩ : BufTy).Contents (Elt F) → (⟨S1024x2, .i32⟩ : BufTy).Contents (Elt F)),
    StableHlo.unary main_v35 main_v41 (broadcastInDim S1024x2 ![0, 1] bcast_S1x2_S1024x2_0_1 : (⟨S1x2, .i32⟩ : BufTy).Contents (Elt F) → (⟨S1024x2, .i32⟩ : BufTy).Contents (Elt F)),
    StableHlo.unary main_v41 main_v42 (broadcastInDim S1024x2x1 ![0, 1] bcast_S1024x2_S1024x2x1_0_1 : (⟨S1024x2, .i32⟩ : BufTy).Contents (Elt F) → (⟨S1024x2x1, .i32⟩ : BufTy).Contents (Elt F)),
    StableHlo.unary main_v40 main_v43 (broadcastInDim S1024x2x1 ![0, 1] bcast_S1024x2_S1024x2x1_0_1 : (⟨S1024x2, .i32⟩ : BufTy).Contents (Elt F) → (⟨S1024x2x1, .i32⟩ : BufTy).Contents (Elt F)),
    StableHlo.binary main_v42 main_v43 main_v44 ((fun a b => concatenate S1024x2x2 2 [⟨S1024x2x1, a⟩, ⟨S1024x2x1, b⟩] concatenates_S1024x2x1_S1024x2x1_S1024x2x2_d2) : (⟨S1024x2x1, .i32⟩ : BufTy).Contents (Elt F) → (⟨S1024x2x1, .i32⟩ : BufTy).Contents (Elt F) → (⟨S1024x2x2, .i32⟩ : BufTy).Contents (Elt F)),
    StableHlo.binary main_arg5 main_v44 main_v45 ((fun x i => Host.gather gather_S2x1024x256_S1024x2x2_S1024x2x256_2_01_n_n_01_2_11256 x i) : (⟨S2x1024x256, .f32⟩ : BufTy).Contents (Elt F) → (⟨S1024x2x2, .i32⟩ : BufTy).Contents (Elt F) → (⟨S1024x2x256, .f32⟩ : BufTy).Contents (Elt F)),
    StableHlo.nullary main_cst_7 (constant S_ .f32 0x00000000#32),
    StableHlo.binary main_v45 main_cst_7 main_v46 ((fun x v => Host.reduceAdd x v reducesTo_S1024x2x256_S1024x256_d1 h_S_) : (⟨S1024x2x256, .f32⟩ : BufTy).Contents (Elt F) → (⟨S_, .f32⟩ : BufTy).Contents (Elt F) → (⟨S1024x256, .f32⟩ : BufTy).Contents (Elt F)) ]

/-- The decoder and the two results that it feeds: `%47` … `%64`, the two calls to `relu` opened. -/
abbrev decodeOps : List (HloOp τ sig (Elt F)) :=
  [ StableHlo.binary main_v46 main_arg6 main_v47 ((fun l r => Host.dotGeneral dot_S1024x256_S256x512_S1024x512_1_0_0_1_n_n none l r) : (⟨S1024x256, .f32⟩ : BufTy).Contents (Elt F) → (⟨S256x512, .f32⟩ : BufTy).Contents (Elt F) → (⟨S1024x512, .f32⟩ : BufTy).Contents (Elt F)),
    StableHlo.unary main_arg7 main_v48 (broadcastInDim S1x512 ![1] bcast_S512_S1x512_1 : (⟨S512, .f32⟩ : BufTy).Contents (Elt F) → (⟨S1x512, .f32⟩ : BufTy).Contents (Elt F)),
    StableHlo.unary main_v48 main_v49 (broadcastInDim S1024x512 ![0, 1] bcast_S1x512_S1024x512_0_1 : (⟨S1x512, .f32⟩ : BufTy).Contents (Elt F) → (⟨S1024x512, .f32⟩ : BufTy).Contents (Elt F)),
    StableHlo.binary main_v47 main_v49 main_v50 (addf : (⟨S1024x512, .f32⟩ : BufTy).Contents (Elt F) → (⟨S1024x512, .f32⟩ : BufTy).Contents (Elt F) → (⟨S1024x512, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S1024x512, .f32⟩) (broadcastInDim S1024x512 ![] bcast_S_S1024x512),
    StableHlo.TRef.binary (.of main_v50 : StableHlo.TRef sig ⟨S1024x512, .f32⟩) (.of main_call2_v0 : StableHlo.TRef sig ⟨S1024x512, .f32⟩) (.of main_v51 : StableHlo.TRef sig ⟨S1024x512, .f32⟩) maximumf,
    StableHlo.binary main_v51 main_arg8 main_v52 ((fun l r => Host.dotGeneral dot_S1024x512_S512x512_S1024x512_1_0_0_1_n_n none l r) : (⟨S1024x512, .f32⟩ : BufTy).Contents (Elt F) → (⟨S512x512, .f32⟩ : BufTy).Contents (Elt F) → (⟨S1024x512, .f32⟩ : BufTy).Contents (Elt F)),
    StableHlo.unary main_arg9 main_v53 (broadcastInDim S1x512 ![1] bcast_S512_S1x512_1 : (⟨S512, .f32⟩ : BufTy).Contents (Elt F) → (⟨S1x512, .f32⟩ : BufTy).Contents (Elt F)),
    StableHlo.unary main_v53 main_v54 (broadcastInDim S1024x512 ![0, 1] bcast_S1x512_S1024x512_0_1 : (⟨S1x512, .f32⟩ : BufTy).Contents (Elt F) → (⟨S1024x512, .f32⟩ : BufTy).Contents (Elt F)),
    StableHlo.binary main_v52 main_v54 main_v55 (addf : (⟨S1024x512, .f32⟩ : BufTy).Contents (Elt F) → (⟨S1024x512, .f32⟩ : BufTy).Contents (Elt F) → (⟨S1024x512, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S1024x512, .f32⟩) (broadcastInDim S1024x512 ![] bcast_S_S1024x512),
    StableHlo.TRef.binary (.of main_v55 : StableHlo.TRef sig ⟨S1024x512, .f32⟩) (.of main_call3_v0 : StableHlo.TRef sig ⟨S1024x512, .f32⟩) (.of main_v56 : StableHlo.TRef sig ⟨S1024x512, .f32⟩) maximumf,
    StableHlo.binary main_v56 main_arg10 main_v57 ((fun l r => Host.dotGeneral dot_S1024x512_S512x35_S1024x35_1_0_0_1_n_n none l r) : (⟨S1024x512, .f32⟩ : BufTy).Contents (Elt F) → (⟨S512x35, .f32⟩ : BufTy).Contents (Elt F) → (⟨S1024x35, .f32⟩ : BufTy).Contents (Elt F)),
    StableHlo.unary main_arg11 main_v58 (broadcastInDim S1x35 ![1] bcast_S35_S1x35_1 : (⟨S35, .f32⟩ : BufTy).Contents (Elt F) → (⟨S1x35, .f32⟩ : BufTy).Contents (Elt F)),
    StableHlo.unary main_v58 main_v59 (broadcastInDim S1024x35 ![0, 1] bcast_S1x35_S1024x35_0_1 : (⟨S1x35, .f32⟩ : BufTy).Contents (Elt F) → (⟨S1024x35, .f32⟩ : BufTy).Contents (Elt F)),
    StableHlo.binary main_v57 main_v59 main_v60 (addf : (⟨S1024x35, .f32⟩ : BufTy).Contents (Elt F) → (⟨S1024x35, .f32⟩ : BufTy).Contents (Elt F) → (⟨S1024x35, .f32⟩ : BufTy).Contents (Elt F)),
    StableHlo.reshape main_v60 main_v61 (rfl : (.f32 : EltTy) = .f32) shapeCasts_S1024x35_S1024x5x7,
    StableHlo.reshape main_v28 main_v62 (rfl : (.f32 : EltTy) = .f32) shapeCasts_S1024x35_S1024x5x7,
    StableHlo.binary main_v61 main_v62 main_v63 (addf : (⟨S1024x5x7, .f32⟩ : BufTy).Contents (Elt F) → (⟨S1024x5x7, .f32⟩ : BufTy).Contents (Elt F) → (⟨S1024x5x7, .f32⟩ : BufTy).Contents (Elt F)),
    StableHlo.reshape main_v63 main_v64 (rfl : (.f32 : EltTy) = .f32) shapeCasts_S1024x5x7_S64x16x35 ]

/-- The buffers that `headOps` writes. -/
abbrev headOpsW : List (Ref sig .tc) :=
  [main_v0, main_v1, main_v2, main_v3, main_v4, main_v5, main_cst, main_v6, main_v7, main_cst_0, main_v8, main_cst_1, main_v9, main_v10, main_v11, main_v12, main_v13, main_v14, main_cst_2, main_v15, main_v16, main_v17, main_v18, main_call0_v0, main_call0_cst, main_call0_c, main_call0_v1_0, main_v19]

/-- The buffers that `offsetOps` writes. -/
abbrev offsetOpsW : List (Ref sig .tc) :=
  [main_v20, main_v21, main_v22, main_v23, main_v24, main_v25, main_call1_c, main_call1_v0, main_call1_v1, main_call1_c_0, main_call1_v2, main_call1_v3, main_call1_v4, main_call1_c_1, main_call1_c_2, main_call1_v5, main_call1_v6, main_call1_v7, main_call1_v8, main_call1_v9, main_call1_v10, main_call1_c_3, main_call1_v11, main_call1_v12, main_call1_v13, main_call1_cst, main_call1_v14, main_v26, main_v27, main_cst_3, main_v28]

/-- The buffers that `embedOps` writes. -/
abbrev embedOpsW : List (Ref sig .tc) :=
  [main_v29, main_v30, main_c, main_v31, main_v32, main_c_4, main_v33, main_v34, main_v35, main_c_5, main_v36, main_v37, main_c_6, main_v38, main_v39, main_v40, main_v41, main_v42, main_v43, main_v44, main_v45, main_cst_7, main_v46]

/-- The buffers that `decodeOps` writes. -/
abbrev decodeOpsW : List (Ref sig .tc) :=
  [main_v47, main_v48, main_v49, main_v50, main_call2_cst, main_call2_v0, main_v51, main_v52, main_v53, main_v54, main_v55, main_call3_cst, main_call3_v0, main_v56, main_v57, main_v58, main_v59, main_v60, main_v61, main_v62, main_v63, main_v64]

/-- The head's stretch writes just the buffers listed for it. -/
theorem headOps_writes : (headOps : List (HloOp τ sig (Elt F))).Forall fun op =>
    op.writes ⊆ (headOpsW.map (Proc.devRef (τ := τ) .tc)).toFinset := StableHlo.forall_writes_sub_of_map rfl

/-- The offsets' stretch writes just the buffers listed for it. -/
theorem offsetOps_writes : (offsetOps : List (HloOp τ sig (Elt F))).Forall fun op =>
    op.writes ⊆ (offsetOpsW.map (Proc.devRef (τ := τ) .tc)).toFinset := StableHlo.forall_writes_sub_of_map rfl

/-- The codebooks' stretch writes just the buffers listed for it. -/
theorem embedOps_writes : (embedOps : List (HloOp τ sig (Elt F))).Forall fun op =>
    op.writes ⊆ (embedOpsW.map (Proc.devRef (τ := τ) .tc)).toFinset := StableHlo.forall_writes_sub_of_map rfl

/-- The decoder's stretch writes just the buffers listed for it. -/
theorem decodeOps_writes : (decodeOps : List (HloOp τ sig (Elt F))).Forall fun op =>
    op.writes ⊆ (decodeOpsW.map (Proc.devRef (τ := τ) .tc)).toFinset := StableHlo.forall_writes_sub_of_map rfl

/-- The reference's buffers after the bin head and the sampling, from contents `V`. -/
abbrev afterHead (V : Valuation τ sig (Elt F)) : Valuation τ sig (Elt F) := StableHlo.after headOps V
/-- The buffers after the offsets' stretch. -/
abbrev afterOffset (V : Valuation τ sig (Elt F)) : Valuation τ sig (Elt F) := StableHlo.after offsetOps (afterHead V)
/-- The buffers after the codebooks' stretch. -/
abbrev afterEmbed (V : Valuation τ sig (Elt F)) : Valuation τ sig (Elt F) := StableHlo.after embedOps (afterOffset V)
/-- The buffers after the decoder's stretch, the last. -/
abbrev afterDecode (V : Valuation τ sig (Elt F)) : Valuation τ sig (Elt F) := StableHlo.after decodeOps (afterEmbed V)

/-- Two lists of operations in a row leave what the second leaves after the first. -/
theorem after_two (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- `main` is the four stretches in a row. -/
theorem main_isSeq (d : Dev nD) : StableHlo.IsSeq (main (F := F) d) (headOps ++ offsetOps ++ embedOps ++ decodeOps) := by
  simp only [headOps, offsetOps, embedOps, decodeOps, List.cons_append, List.nil_append]
  hlo_seq

/-- Every run of the reference ends with each buffer at what the four stretches leave there. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = afterDecode (StableHlo.launchContents m d) (Proc.devRef .tc b) := by
  have h := StableHlo.run_hlo (defs (F := F)) main main_isSeq (by decide) (by decide)
    (by simp [headOps, offsetOps, embedOps, decodeOps])
    (by
      simp only [headOps, offsetOps, embedOps, decodeOps, List.cons_append, List.nil_append]
      intro _ h
      repeat (cases h with | head => rfl | tail _ h => ?_)
      exact nomatch h) m ρ
  simpa only [after_two] using h

/-- A buffer that no stretch writes keeps its contents. -/
theorem afterDecode_of (V : Valuation τ sig (Elt F)) (b : Ref sig .tc)
    (h : b ∉ headOpsW ∧ b ∉ offsetOpsW ∧ b ∉ embedOpsW ∧ b ∉ decodeOpsW) :
    afterDecode V (Proc.devRef .tc b) = V (Proc.devRef .tc b) :=
  (StableHlo.after_of_writes_sub _ _ decodeOps_writes h.2.2.2).trans <|
    (StableHlo.after_of_writes_sub _ _ embedOps_writes h.2.2.1).trans <|
      (StableHlo.after_of_writes_sub _ _ offsetOps_writes h.2.1).trans <|
        StableHlo.after_of_writes_sub _ _ headOps_writes h.1

/-- The reference ends with its arguments as launched and every counter at zero. -/
theorem quiescent (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  refine (θ_run defs _ _).mono (fun r h => ⟨fun c => ⟨?_, ?_, ?_, ?_, ?_, ?_, ?_, ?_, ?_, ?_, ?_, ?_⟩,
    Idealize.ShloMosaic.sem_eq_zero_of_no_sems (by decide) r.2⟩) (run m ρ)
  all_goals exact (h c _).trans (afterDecode_of _ _ (by decide))

end Cert.Reference

end
-- ==== Proof.Run.lean ====
module

public import proofs.«01_k».proof.Defs
public import proofs.«01_k».proof.Proof.Gen.KernelIdeal
public import proofs.«01_k».proof.Proof.Gen.KernelIdeal.Frame

/-!
The kernel's run, with its values: three regions among stretches of host operations. The launch is that of the
generated frame; what is read off the last boundary here is every result, not the arguments alone.
-/

@[expose] public section

set_option maxRecDepth 16384

noncomputable section

namespace Cert.KernelValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every run of the kernel ends with its four results at the last boundary's contents `W9` (the fold of the program's
    stretches and regions over the launch memory) and with its arguments as launched. -/
theorem run : θ_run defs (onTc (τ := τ) (main (F := F))) ⟨m, fun _ => 0, ρ⟩ (fun r => ∀ c : Dev nD,
      r.2.mem ((c.tc : Thread nD τ).loc main_v14) = W9 m ρ c (Proc.devRef .tc main_v14)
      ∧ r.2.mem ((c.tc : Thread nD τ).loc main_v15) = W9 m ρ c (Proc.devRef .tc main_v15)
      ∧ r.2.mem ((c.tc : Thread nD τ).loc main_v2_1) = W9 m ρ c (Proc.devRef .tc main_v2_1)
      ∧ r.2.mem ((c.tc : Thread nD τ).loc main_v16) = W9 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => fun c =>
      ⟨h c _ (mem_uc main_v14 (by decide)), h c _ (mem_uc main_v15 (by decide)),
       h c _ (mem_uc main_v2_1 (by decide)), h c _ (mem_uc main_v16 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.KernelValue

end
-- ==== Proof.Numbers.lean ====
/-
  The arithmetic of this kernel and of its reference on numbers and words, away from any program: the first place at
  which a row is largest, as the kernel finds it (a least index) and as the reference finds it (a fold over pairs); the
  numbers that the kernel's zero-one masks are; and the remainder by 35 as the kernel computes it, by a product with the
  float nearest 1/35 and a floor.
-/
module

public import Idealize.ShloMosaic.Lib.Pointwise

@[expose] public section

set_option maxRecDepth 16384

noncomputable section

namespace Cert.Numbers

open Idealize.ShloMosaic

/-! ## Words -/

/-- Words of numbers below 2³² are equal just when the numbers are. -/
theorem word_inj (a b : ℕ) (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A word's number, for a natural number below 2³¹. -/
theorem number_of_word (n : ℕ) (h : n < 2 ^ 31) : (BitVec.ofNat 32 n).toInt = (n : ℤ) := by
  rw [BitVec.toInt_eq_toNat_cond, BitVec.toNat_ofNat]
  split <;> omega

/-! ## The first place of the greatest value -/

/-- A row takes its greatest value somewhere. -/
theorem largest_nonempty (f : Fin 1024 → EReal) :
    (Finset.univ.filter fun j => ∀ i, f i ≤ f j).Nonempty := by
  obtain ⟨j, -, hj⟩ := Finset.exists_max_image Finset.univ f ⟨0, Finset.mem_univ _⟩
  exact ⟨j, by simpa using fun i => hj i (Finset.mem_univ _)⟩

/-- The least index at which `f` takes its greatest value. -/
def firstMax (f : Fin 1024 → EReal) : Fin 1024 :=
  (Finset.univ.filter fun j => ∀ i, f i ≤ f j).min' (largest_nonempty f)

/-- No value of a row exceeds that at the first place of the greatest. -/
theorem le_firstMax (f : Fin 1024 → EReal) (i : Fin 1024) : f i ≤ f (firstMax f) := by
  have h := Finset.min'_mem _ (largest_nonempty f)
  exact (Finset.mem_filter.mp h).2 i

/-- The first place of the greatest value precedes every other such place. -/
theorem firstMax_le (f : Fin 1024 → EReal) (j : Fin 1024) (h : ∀ i, f i ≤ f j) : firstMax f ≤ j :=
  Finset.min'_le _ _ (by simpa using h)

/-- An index whose value is greatest, and which no other such index precedes, is the first. -/
theorem firstMax_eq (f : Fin 1024 → EReal) (m : Fin 1024) (h : ∀ k, f k < f m ∨ (f k = f m ∧ m ≤ k)) :
    firstMax f = m := by
  have hm : ∀ k, f k ≤ f m := fun k => (h k).elim le_of_lt fun e => e.1.le
  refine le_antisymm (firstMax_le f m hm) ?_
  rcases h (firstMax f) with hlt | ⟨-, hle⟩
  · exact absurd (le_firstMax f m) (not_le.mpr hlt)
  · exact hle

/-- Two rows in the same order have their first greatest value at the same place. -/
theorem firstMax_congr (f g : Fin 1024 → EReal) (h : ∀ i j, f i ≤ f j ↔ g i ≤ g j) : firstMax f = firstMax g := by
  unfold firstMax
  congr 1
  simp [h]

/-- The least, as signed words, of the indices at which a row is at least its own greatest value — every other index
    replaced by a large word — is the first place of the greatest value. -/
theorem fold_minsi_eq (f : Fin 1024 → EReal) :
    Finset.fold IntOp.minsi (2147483647#32)
      (fun j : Fin 1024 => if Finset.fold max (⊥ : EReal) f Finset.univ ≤ f j then BitVec.ofNat 32 j.val else 1073741824#32)
      Finset.univ = BitVec.ofNat 32 (firstMax f).val := by
  have hword : ∀ j : Fin 1024, (BitVec.ofNat 32 j.val).toInt = (j.val : ℤ) := fun j =>
    number_of_word _ (by have := j.isLt; omega)
  have hmax : ∀ j, Finset.fold max (⊥ : EReal) f Finset.univ ≤ f j ↔ ∀ i, f i ≤ f j := by
    intro j
    rw [Finset.fold_max_le]
    simp
  apply BitVec.eq_of_toInt_eq
  rw [← Finset.fold_hom (op' := min) (m := BitVec.toInt) (fun x y => by
    simp only [IntOp.minsi]
    split <;> rename_i hs <;> simp only [BitVec.slt, BitVec.sle, decide_eq_true_eq] at hs <;> omega)]
  rw [hword]
  apply le_antisymm
  · refine (Finset.fold_min_le _).mpr (Or.inr ⟨firstMax f, Finset.mem_univ _, ?_⟩)
    simp only [Function.comp, hmax]
    rw [if_pos (le_firstMax f), hword]
  · refine (Finset.le_fold_min _).mpr ⟨?_, fun j _ => ?_⟩
    · have := (firstMax f).isLt
      show ((firstMax f).val : ℤ) ≤ 2147483647
      omega
    · simp only [Function.comp, hmax]
      split
      · rename_i h
        rw [hword]
        exact_mod_cast firstMax_le f j h
      · have := (firstMax f).isLt
        show ((firstMax f).val : ℤ) ≤ 1073741824
        omega

/-! ## The arg-max of the reference: a fold over pairs of a value and an index -/

/-- The order in which the fold prefers a pair: a greater value, or the same value and a smaller index. -/
def Beaten (p q : EReal × BitVec 32) : Prop := p.1 < q.1 ∨ (p.1 = q.1 ∧ q.2.toNat ≤ p.2.toNat)

/-- A pair is beaten by itself. -/
theorem Beaten.refl (p : EReal × BitVec 32) : Beaten p p := Or.inr ⟨rfl, le_rfl⟩

/-- What is beaten by a beaten pair is beaten. -/
theorem Beaten.trans {p q r : EReal × BitVec 32} (h : Beaten p q) (h' : Beaten q r) : Beaten p r := by
  rcases h with h | ⟨h, e⟩ <;> rcases h' with h' | ⟨h', e'⟩
  · exact Or.inl (h.trans h')
  · exact Or.inl (h' ▸ h)
  · exact Or.inl (h ▸ h')
  · exact Or.inr ⟨h.trans h', e'.trans e⟩

/-- A step that keeps one of its two pairs, and the one that the other is beaten by, folds a list to a member of the
    list (or the initial pair) by which every member and the initial pair are beaten. -/
theorem foldl_beaten (f : EReal × BitVec 32 → EReal × BitVec 32 → EReal × BitVec 32) (ok : EReal × BitVec 32 → Prop)
    (hf : ∀ a b, ok a → ok b → (f a b = a ∨ f a b = b) ∧ Beaten a (f a b) ∧ Beaten b (f a b))
    (L : List (EReal × BitVec 32)) (hL : ∀ p ∈ L, ok p) (a : EReal × BitVec 32) (ha : ok a) :
    (L.foldl f a = a ∨ L.foldl f a ∈ L) ∧ Beaten a (L.foldl f a) ∧ ∀ p ∈ L, Beaten p (L.foldl f a) := by
  induction L generalizing a with
  | nil => exact ⟨Or.inl rfl, Beaten.refl a, by simp⟩
  | cons b L ih =>
    obtain ⟨hmem, hba, hbb⟩ := hf a b ha (hL b (by simp))
    have hok : ok (f a b) := by
      rcases hmem with e | e <;> rw [e]
      · exact ha
      · exact hL b (by simp)
    obtain ⟨h1, h2, h3⟩ := ih (fun p hp => hL p (by simp [hp])) (f a b) hok
    refine ⟨?_, hba.trans h2, ?_⟩
    · rw [List.foldl_cons]
      rcases h1 with e | e
      · rw [e]
        rcases hmem with e' | e' <;> rw [e'] <;> simp
      · exact Or.inr (List.mem_cons_of_mem _ e)
    · intro p hp
      rcases List.mem_cons.mp hp with rfl | hp
      · exact hbb.trans h2
      · exact h3 p hp

/-! ## Masks as numbers -/

/-- The number of a comparison's bit, widened to a word and read as a signed integer: one or zero. -/
theorem number_of_bit (p : Prop) [Decidable p] :
    (FloatOps.sitofp (F := Ideal) .f32 (BitVec.setWidth 32 (BitVec.ofBool (decide p))) : EReal) = if p then 1 else 0 := by
  by_cases h : p
  · rw [if_pos h, decide_eq_true h]
    show (((BitVec.setWidth 32 (BitVec.ofBool true)).toInt : ℝ) : EReal) = 1
    rw [show (BitVec.setWidth 32 (BitVec.ofBool true)).toInt = 1 from by decide]
    simp
  · rw [if_neg h, decide_eq_false h]
    show (((BitVec.setWidth 32 (BitVec.ofBool false)).toInt : ℝ) : EReal) = 0
    rw [show (BitVec.setWidth 32 (BitVec.ofBool false)).toInt = 0 from by decide]
    simp

/-- The number of the disjunction of two equality tests between words. -/
theorem number_of_either (a b c d : BitVec 32) :
    (FloatOps.sitofp (F := Ideal) .f32 (BitVec.setWidth 32
      (IntOp.ori (IntOp.cmpi .eq a b) (IntOp.cmpi .eq c d))) : EReal) = if a = b ∨ c = d then 1 else 0 := by
  rw [← number_of_bit]
  have e : IntOp.ori (IntOp.cmpi .eq a b) (IntOp.cmpi .eq c d) = BitVec.ofBool (decide (a = b ∨ c = d)) := by
    have ea : (a == b) = decide (a = b) := by simp [beq_eq_decide]
    have ec : (c == d) = decide (c = d) := by simp [beq_eq_decide]
    simp only [IntOp.ori, IntOp.cmpi, ea, ec, Bool.decide_or]
    cases decide (a = b) <;> cases decide (c = d) <;> rfl
  rw [e]

/-- Of the codes 0 … 2047 of the one-hot rows, those of a row with centers `c0` and `c1` are `c0` and `1024 + c1`. -/
theorem hot (c0 c1 : Fin 1024) (j : ℕ) (hj : j < 2048) :
    (FloatOps.sitofp (F := Ideal) .f32 (BitVec.setWidth 32
      (IntOp.ori (IntOp.cmpi .eq (BitVec.ofNat 32 j) (BitVec.ofNat 32 c0.val))
        (IntOp.cmpi .eq (BitVec.ofNat 32 j) (IntOp.addi (BitVec.ofNat 32 c1.val) 1024#32)))) : EReal)
      = if j = c0.val ∨ j = 1024 + c1.val then 1 else 0 := by
  have h0 := c0.isLt
  have h1 := c1.isLt
  have e : IntOp.addi (BitVec.ofNat 32 c1.val) 1024#32 = BitVec.ofNat 32 (1024 + c1.val) := by
    rw [Nat.add_comm, IntOp.addi, ← BitVec.ofNat_add]
  rw [number_of_either, e]
  simp only [word_inj j c0.val (by omega) (by omega), word_inj j (1024 + c1.val) (by omega) (by omega)]

/-! ## The remainder by 35 -/

/-- The kernel's literal for 1/35, a rounded one. -/
theorem word_inv35 : Ideal.ofBits .f32 1021972129#32 = ((15339169 / 2 ^ 29 : ℝ) : EReal) := by
  simp [Ideal.ofBits, Ideal.ieee]
  norm_num
  rw [← EReal.coe_mul]
  norm_num

/-- The kernel's literal for half of 1/35, a rounded one. -/
theorem word_half_inv35 : Ideal.ofBits .f32 1013583521#32 = ((15339169 / 2 ^ 30 : ℝ) : EReal) := by
  simp [Ideal.ofBits, Ideal.ieee]
  norm_num
  rw [← EReal.coe_mul]
  norm_num

/-- The literal 35. -/
theorem word_35 : Ideal.ofBits .f32 1108082688#32 = ((35 : ℝ) : EReal) := by
  simp [Ideal.ofBits, Ideal.ieee]
  norm_num
  rw [← EReal.coe_mul]
  norm_num

/-- The literal of negative infinity. -/
theorem word_bot : Ideal.ofBits .f32 4286578688#32 = (⊥ : EReal) := by
  simp [Ideal.ofBits, Ideal.ieee]

/-- The floor that the kernel takes is the quotient by 35: `15339169 / 2²⁹` is so near `1/35` that over the columns
    below 71680 the error stays under the half step added before the floor. -/
theorem floor_eq (n : ℕ) (hn : n < 71680) :
    ⌊(n : ℝ) * (15339169 / 2 ^ 29) + 15339169 / 2 ^ 30⌋ = ((n / 35 : ℕ) : ℤ) := by
  have hd := Nat.div_add_mod n 35
  have hr := Nat.mod_lt n (show 0 < 35 by norm_num)
  have hq : n / 35 ≤ 2047 := by omega
  rw [Int.floor_eq_iff]
  have e : (n : ℝ) = 35 * ((n / 35 : ℕ) : ℝ) + ((n % 35 : ℕ) : ℝ) := by exact_mod_cast hd.symm
  have r0 : (0 : ℝ) ≤ ((n % 35 : ℕ) : ℝ) := by positivity
  have r1 : ((n % 35 : ℕ) : ℝ) ≤ 34 := by exact_mod_cast Nat.lt_succ_iff.mp hr
  have q0 : (0 : ℝ) ≤ ((n / 35 : ℕ) : ℝ) := by positivity
  have q1 : ((n / 35 : ℕ) : ℝ) ≤ 2047 := by exact_mod_cast hq
  have ez : (((n / 35 : ℕ) : ℤ) : ℝ) = ((n / 35 : ℕ) : ℝ) := by push_cast; rfl
  rw [ez, e]
  generalize ((n / 35 : ℕ) : ℝ) = q at *
  generalize ((n % 35 : ℕ) : ℝ) = s at *
  constructor <;> norm_num <;> linarith

/-- The kernel's test of a column's remainder, at column `n` and a number `o` below 35. -/
theorem remainder (n : ℕ) (hn : n < 71680) (o : ℕ) :
    ((n : ℝ) : EReal) - Ideal.liftRound Int.floor (((n : ℝ) : EReal) * Ideal.ofBits .f32 1021972129#32
      + Ideal.ofBits .f32 1013583521#32) * Ideal.ofBits .f32 1108082688#32 = ((o : ℝ) : EReal) ↔ n % 35 = o := by
  rw [word_inv35, word_half_inv35, word_35, ← EReal.coe_mul, ← EReal.coe_add]
  show (n : EReal) - ((⌊(n : ℝ) * (15339169 / 2 ^ 29) + 15339169 / 2 ^ 30⌋ : ℝ) : EReal) * ((35 : ℝ) : EReal) = _ ↔ _
  rw [floor_eq n hn, ← EReal.coe_mul]
  show ((n : ℝ) : EReal) - _ = _ ↔ _
  rw [← EReal.coe_sub, EReal.coe_eq_coe_iff]
  have hd := Nat.div_add_mod n 35
  have e : (n : ℝ) = 35 * ((n / 35 : ℕ) : ℝ) + ((n % 35 : ℕ) : ℝ) := by exact_mod_cast hd.symm
  rw [show ((((n / 35 : ℕ) : ℤ) : ℝ)) = ((n / 35 : ℕ) : ℝ) from by push_cast; rfl, e]
  constructor
  · intro h
    have : ((n % 35 : ℕ) : ℝ) = (o : ℝ) := by linarith
    exact_mod_cast this
  · intro h
    have : ((n % 35 : ℕ) : ℝ) = (o : ℝ) := by exact_mod_cast h
    linarith

/-! ## Sums with zero-one factors -/

/-- A sum weighted by the indicator of two distinct places is the sum of its terms there. -/
theorem sum_two {ι : Type} [Fintype ι] [DecidableEq ι] (f : ι → EReal) (a b : ι) (hab : a ≠ b) :
    ∑ j, (if j = a ∨ j = b then (1 : EReal) else 0) * f j = f a + f b := by
  have e : ∀ j, (if j = a ∨ j = b then (1 : EReal) else 0) * f j
      = (if j = a then f j else 0) + (if j = b then f j else 0) := by
    intro j
    by_cases ha : j = a
    · subst ha
      simp [hab]
    · by_cases hb : j = b
      · subst hb
        simp [ha]
      · simp [ha, hb]
  simp only [e, Finset.sum_add_distrib, Finset.sum_ite_eq', Finset.mem_univ, if_true]

end Cert.Numbers
-- ==== Proof.Spec.lean ====
/-
  The four results as plain formulas of the twelve arguments, the arguments read as functions of their coordinates: what
  the kernel's results and the reference's are both shown to be.
-/
module

public import proofs.«01_k».proof.Proof.Numbers

@[expose] public section

noncomputable section

namespace Cert.Spec

open Idealize.ShloMosaic

/-- The column of the bin head that holds bin `c` of group `g`. -/
def col (g : Fin 2) (c : Fin 1024) : Fin 2048 := ⟨g.val * 1024 + c.val, by omega⟩

/-- The column of the offsets head that holds offset `o` of bin `c` of group `g`. -/
def offCol (g : Fin 2) (c : Fin 1024) (o : Fin 35) : Fin 71680 := ⟨(g.val * 1024 + c.val) * 35 + o.val, by omega⟩

/-- The activations as one row per token. -/
def rows (x : FVec Ideal ⟨3, ![64, 16, 1024]⟩ .f32) (r k : Fin 1024) : EReal :=
  x (ix3 (⟨r.val / 16, by omega⟩ : Fin 64) (⟨r.val % 16, by omega⟩ : Fin 16) k)

/-- The bin head at row `r` and column `j`. -/
def logit (x : Fin 1024 → Fin 1024 → EReal) (w : FVec Ideal ⟨2, ![1024, 2048]⟩ .f32) (b : FVec Ideal ⟨1, ![2048]⟩ .f32)
    (r : Fin 1024) (j : Fin 2048) : EReal :=
  ∑ k : Fin 1024, x r k * w (ix2 k j) + b (ix1 j)

/-- The bin sampled for group `g` at row `r`: the first of the greatest logit. -/
def center (x : Fin 1024 → Fin 1024 → EReal) (w : FVec Ideal ⟨2, ![1024, 2048]⟩ .f32) (b : FVec Ideal ⟨1, ![2048]⟩ .f32)
    (r : Fin 1024) (g : Fin 2) : Fin 1024 :=
  Cert.Numbers.firstMax fun c => logit x w b r (col g c)

/-- The offsets head at row `r` and column `j`, before its bias. -/
def offset (x : Fin 1024 → Fin 1024 → EReal) (w : FVec Ideal ⟨2, ![1024, 71680]⟩ .f32) (r : Fin 1024) (j : Fin 71680) : EReal :=
  ∑ k : Fin 1024, x r k * w (ix2 k j)

/-- The offsets of the sampled bins `c`, added over the two groups. -/
def offsets (x : Fin 1024 → Fin 1024 → EReal) (w : FVec Ideal ⟨2, ![1024, 71680]⟩ .f32) (b : FVec Ideal ⟨1, ![71680]⟩ .f32)
    (c : Fin 2 → Fin 1024) (r : Fin 1024) (o : Fin 35) : EReal :=
  ∑ g : Fin 2, (offset x w r (offCol g (c g) o) + b (ix1 (offCol g (c g) o)))

/-- The codebook rows of the sampled bins `c`, added over the two groups. -/
def embed (cb : FVec Ideal ⟨3, ![2, 1024, 256]⟩ .f32) (c : Fin 2 → Fin 1024) (d : Fin 256) : EReal :=
  ∑ g : Fin 2, cb (ix3 g (c g) d)

/-- The decoder: three dense layers, the first two cut off below at zero. -/
def decode (z : Fin 256 → EReal) (w1 : FVec Ideal ⟨2, ![256, 512]⟩ .f32) (b1 : FVec Ideal ⟨1, ![512]⟩ .f32)
    (w2 : FVec Ideal ⟨2, ![512, 512]⟩ .f32) (b2 : FVec Ideal ⟨1, ![512]⟩ .f32) (w3 : FVec Ideal ⟨2, ![512, 35]⟩ .f32)
    (b3 : FVec Ideal ⟨1, ![35]⟩ .f32) (o : Fin 35) : EReal :=
  ∑ q : Fin 512, max (∑ p : Fin 512, max (∑ d : Fin 256, z d * w1 (ix2 d p) + b1 (ix1 p)) 0 * w2 (ix2 p q) + b2 (ix1 q)) 0
    * w3 (ix2 q o) + b3 (ix1 o)

end Cert.Spec
-- ==== Proof.Host.lean ====
module

public import proofs.«01_k».proof.Defs
public import proofs.«01_k».proof.Proof.Numbers
public import proofs.«01_k».proof.Proof.Spec
public import proofs.«01_k».proof.Proof.Gen.KernelIdeal
public import proofs.«01_k».proof.Proof.Gen.KernelIdeal.Frame
public import Idealize.ShloMosaic.Lib.Pointwise

/-!
The kernel's host operations between its regions, each read at an index: the reshapes, and the code of a column of
the offsets head, which is its quotient by 35.
-/

@[expose] public section

set_option maxRecDepth 16384

noncomputable section

namespace Cert.KernelValue

open Idealize.ShloMosaic Idealize.ShloMosaic.TcCoe Idealize.SL.Sem
open Cert.KernelIdeal Cert.KernelIdeal.Gen
open Cert.KernelIdeal.Facts₀ Cert.KernelIdeal.Facts

variable (V : Valuation τ sig (Elt Ideal))

/-- The activations as rows. -/
theorem host_rows (r k : Fin 1024) : (StableHlo.after hostOps0 V (Proc.devRef .tc main_v0) : FVec Ideal S1024x1024 .f32) (ix2 r k)
    = Cert.Spec.rows (V (Proc.devRef .tc main_arg0)) r k := by
  after_results
  pointwise
  rfl

/-- The bias of the bin head as a row. -/
theorem host_head_bias (j : Fin 2048) : (StableHlo.after hostOps0 V (Proc.devRef .tc main_v1) : FVec Ideal S1x2048 .f32) (ix2 (0 : Fin 1) j)
    = (V (Proc.devRef .tc main_arg2) : FVec Ideal S2048 .f32) (ix1 j) := by
  after_results
  pointwise

/-- The narrowed activations: over the extended reals, themselves. -/
theorem host_narrow : StableHlo.after hostOps1 V (Proc.devRef .tc main_v3) = V (Proc.devRef .tc main_v0) := by
  after_results
  rfl

/-- The numbers of the columns of the offsets head. -/
theorem host_columns (q : Fin 71680) : (StableHlo.after hostOps1 V (Proc.devRef .tc main_v4) : IVec S71680 32) (ix1 q)
    = BitVec.ofNat 32 q.val := by
  after_results
  pointwise

/-- The divisor. -/
theorem host_divisor : (StableHlo.after hostOps1 V (Proc.devRef .tc main_c) : IVec S_ 32) = fun _ => 35#32 := by
  after_results
  rfl

/-- A column's number is a word whose sign is clear. -/
theorem column_msb (q : ℕ) (hq : q < 71680) : (BitVec.ofNat 32 q).msb = false := by
  rw [BitVec.msb_eq_false_iff_two_mul_lt, BitVec.toNat_ofNat]
  omega

/-- The quotient rounded toward zero of a column's number by 35. -/
theorem column_quotient (q : ℕ) (hq : q < 71680) :
    IntOp.divsi .host (BitVec.ofNat 32 q) 35#32 = BitVec.ofNat 32 (q / 35) := by
  have hc : ¬ IntOp.SDivCorner (BitVec.ofNat 32 q) 35#32 := by
    rintro (h | h)
    · exact absurd h (by decide)
    · exact absurd h.2 (by decide)
  unfold IntOp.divsi
  rw [if_neg hc, BitVec.sdiv_eq, column_msb q hq, show (35#32).msb = false from by decide]
  apply BitVec.eq_of_toNat_eq
  show ((BitVec.ofNat 32 q) / 35#32).toNat = _
  rw [BitVec.toNat_udiv, BitVec.toNat_ofNat, BitVec.toNat_ofNat, BitVec.toNat_ofNat,
    Nat.mod_eq_of_lt (by omega : q < 2 ^ 32), Nat.mod_eq_of_lt (by omega : 35 < 2 ^ 32), Nat.mod_eq_of_lt (by omega : q / 35 < 2 ^ 32)]

/-- The division rounded down leaves that quotient: the signs differ only at zero, where the remainder is zero. -/
theorem column_floor (q : ℕ) (hq : q < 71680) :
    Scalar.select (IntOp.andi
        (IntOp.cmpi .ne (if BitVec.ofNat 32 q = 0 then 0 else if (BitVec.ofNat 32 q).msb = true then -1 else 1)
          (if (35#32 : BitVec 32) = 0 then 0 else if BitVec.msb (35#32 : BitVec 32) = true then -1 else (1 : BitVec 32)))
        (IntOp.cmpi .ne (IntOp.remsi ArithUnit.host (BitVec.ofNat 32 q) 35#32) 0#32))
      (IntOp.subi (IntOp.divsi ArithUnit.host (BitVec.ofNat 32 q) 35#32) 1#32)
      (IntOp.divsi ArithUnit.host (BitVec.ofNat 32 q) 35#32) = BitVec.ofNat 32 (q / 35) := by
  rcases Nat.eq_zero_or_pos q with rfl | hp
  · decide
  have hz : ¬ BitVec.ofNat 32 q = 0 := fun h => by
    have := congrArg BitVec.toNat h
    rw [BitVec.toNat_ofNat, Nat.mod_eq_of_lt (by omega)] at this
    exact absurd this (by show ¬ q = 0; omega)
  rw [column_quotient q hq, if_neg hz, column_msb q hq]
  have hs : IntOp.cmpi .ne (if false = true then -1 else (1 : BitVec 32))
      (if (35#32 : BitVec 32) = 0 then 0 else if BitVec.msb (35#32 : BitVec 32) = true then -1 else (1 : BitVec 32)) = 0#1 := by decide
  rw [hs, show ∀ x : BitVec 1, IntOp.andi 0#1 x = 0#1 from fun x => BitVec.zero_and]
  rfl

/-- The quotients, by the operations of a division rounded down. -/
theorem host_quotient (q : Fin 71680) (hn : (V (Proc.devRef .tc main_v4) : IVec S71680 32) (ix1 q) = BitVec.ofNat 32 q.val)
    (hd : (V (Proc.devRef .tc main_c) : IVec S_ 32) = fun _ => 35#32) :
    (StableHlo.after hostOps1_1 V (Proc.devRef .tc main_v5) : IVec S71680 32) (ix1 q) = BitVec.ofNat 32 (q.val / 35) := by
  after_results
  simp -implicitDefEqProofs only [StableHlo.TRef.ofBuf_toBuf]
  simp -implicitDefEqProofs only [StableHlo.TRef.ofBuf, StableHlo.TRef.toBuf, cast_eq]
  rw [hd]
  pointwise
  rw [hn]
  exact column_floor q.val q.isLt

/-- The codes as a row. -/
theorem host_codes (q : Fin 71680) : (StableHlo.after hostOps1_2 V (Proc.devRef .tc main_v6) : IVec S1x71680 32) (ix2 (0 : Fin 1) q)
    = (V (Proc.devRef .tc main_v5) : IVec S71680 32) (ix1 q) := by
  after_results
  pointwise

/-- The codebooks as one matrix. -/
theorem host_codebooks (j : Fin 2048) (d : Fin 256) : (StableHlo.after hostOps2 V (Proc.devRef .tc main_v8) : FVec Ideal S2048x256 .f32) (ix2 j d)
    = (V (Proc.devRef .tc main_arg5) : FVec Ideal S2x1024x256 .f32) (ix3 (⟨j.val / 1024, by omega⟩ : Fin 2) (⟨j.val % 1024, by omega⟩ : Fin 1024) d) := by
  after_results
  pointwise

/-- The bias of the offsets head as a matrix. -/
theorem host_offset_bias (j : Fin 2048) (o : Fin 35) : (StableHlo.after hostOps2 V (Proc.devRef .tc main_v9) : FVec Ideal S2048x35 .f32) (ix2 j o)
    = (V (Proc.devRef .tc main_arg4) : FVec Ideal S71680 .f32) (ix1 (⟨j.val * 35 + o.val, by omega⟩ : Fin 71680)) := by
  after_results
  pointwise

/-- The first layer's bias as a row. -/
theorem host_bias1 (p : Fin 512) : (StableHlo.after hostOps2 V (Proc.devRef .tc main_v10) : FVec Ideal S1x512 .f32) (ix2 (0 : Fin 1) p)
    = (V (Proc.devRef .tc main_arg7) : FVec Ideal S512 .f32) (ix1 p) := by
  after_results
  pointwise

/-- The second layer's bias as a row. -/
theorem host_bias2 (p : Fin 512) : (StableHlo.after hostOps2 V (Proc.devRef .tc main_v11) : FVec Ideal S1x512 .f32) (ix2 (0 : Fin 1) p)
    = (V (Proc.devRef .tc main_arg9) : FVec Ideal S512 .f32) (ix1 p) := by
  after_results
  pointwise

/-- The third layer's bias as a row. -/
theorem host_bias3 (p : Fin 35) : (StableHlo.after hostOps2 V (Proc.devRef .tc main_v12) : FVec Ideal S1x35 .f32) (ix2 (0 : Fin 1) p)
    = (V (Proc.devRef .tc main_arg11) : FVec Ideal S35 .f32) (ix1 p) := by
  after_results
  pointwise

/-- The first result is the head, its columns split into groups and bins. -/
theorem host_logits (r : Fin 1024) (g : Fin 2) (c : Fin 1024) : (StableHlo.after hostOps3 V (Proc.devRef .tc main_v14) : FVec Ideal S1024x2x1024 .f32) (ix3 r g c)
    = (V (Proc.devRef .tc main_v2_0) : FVec Ideal S1024x2048 .f32) (ix2 r (Cert.Spec.col g c)) := by
  after_results
  pointwise
  rfl

/-- The second result is the predicted rows, split into sequences and tokens. -/
theorem host_predicted (n : Fin 64) (t : Fin 16) (o : Fin 35) : (StableHlo.after hostOps3 V (Proc.devRef .tc main_v15) : FVec Ideal S64x16x35 .f32) (ix3 n t o)
    = (V (Proc.devRef .tc main_v13_1) : FVec Ideal S1024x35 .f32) (ix2 (⟨n.val * 16 + t.val, by omega⟩ : Fin 1024) o) := by
  after_results
  pointwise

/-- The fourth result is the decoded rows, each split into 5 times 7. -/
theorem host_decoded (r : Fin 1024) (w : Fin 5) (a : Fin 7) : (StableHlo.after hostOps3 V (Proc.devRef .tc main_v16) : FVec Ideal S1024x5x7 .f32) (ix3 r w a)
    = (V (Proc.devRef .tc main_v13_0) : FVec Ideal S1024x35 .f32) (ix2 r (⟨w.val * 7 + a.val, by omega⟩ : Fin 35)) := by
  after_results
  pointwise

end Cert.KernelValue
-- ==== Proof.Heads.lean ====
module

public import proofs.«01_k».proof.Defs
public import proofs.«01_k».proof.Proof.Numbers
public import proofs.«01_k».proof.Proof.Spec
public import proofs.«01_k».proof.Proof.Gen.KernelIdeal
public import proofs.«01_k».proof.Proof.Gen.KernelIdeal.Frame
public import Idealize.ShloMosaic.Lib.Pointwise
public import Idealize.ShloMosaic.Lib.Pipeline.ValueKit

/-!
The first region: the bin head and the bins sampled from it. Each point computes 256 rows of the logits and, for
each of the two groups of 1024 columns, the first column of the greatest logit.
-/

@[expose] public section

set_option maxRecDepth 16384

noncomputable section

namespace Cert.KernelValue

open Idealize.ShloMosaic Idealize.ShloMosaic.TcCoe Idealize.SL.Sem
open Idealize.ShloMosaic.Pipeline (Dat)
open Cert.KernelIdeal Cert.KernelIdeal.Gen

/-- The bin head of the rows `x`: the product with the weights plus the bias. -/
def headOf (x : FVec Ideal S1024x1024 .f32) (w : FVec Ideal S1024x2048 .f32) (b : FVec Ideal S1x2048 .f32)
    (r : Fin 1024) (j : Fin 2048) : EReal :=
  ∑ k : Fin 1024, x (ix2 r k) * w (ix2 k j) + b (ix2 (0 : Fin 1) j)

/-- The index maps of the first region's windows. -/
theorem idx0 : ∀ t : Fin cfg0.N, win0_0.index t = ![t.val, 0] ∧ win0_1.index t = ![0, 0] ∧ win0_2.index t = ![0, 0]
    ∧ win0_3.index t = ![t.val, 0] ∧ win0_4.index t = ![t.val, 0] := (by decide +kernel : ∀ t : Fin grid0.N, _)

/-- The bins of the first 1024 columns, read at an index: the first of the greatest logit. -/
theorem pay2_at (x : FVec Ideal S256x1024 .f32) (w : FVec Ideal S1024x2048 .f32) (b : FVec Ideal S1x2048 .f32) (r : Fin 256) :
    k0_pay2 (F := Ideal) x w b (ix2 r (0 : Fin 1)) = BitVec.ofNat 32 (Cert.Numbers.firstMax fun k =>
      k0_pay1 (F := Ideal) x w b (ix2 r (⟨k.val, by omega⟩ : Fin 2048))).val := by
  pointwise [k0_pay2]
  rw [Cert.Numbers.word_bot]
  exact Cert.Numbers.fold_minsi_eq _

/-- The bins of the last 1024 columns, read at an index. -/
theorem pay3_at (x : FVec Ideal S256x1024 .f32) (w : FVec Ideal S1024x2048 .f32) (b : FVec Ideal S1x2048 .f32) (r : Fin 256) :
    k0_pay3 (F := Ideal) x w b (ix2 r (0 : Fin 1)) = BitVec.ofNat 32 (Cert.Numbers.firstMax fun k =>
      k0_pay1 (F := Ideal) x w b (ix2 r (⟨1024 + k.val, by omega⟩ : Fin 2048))).val := by
  pointwise [k0_pay3]
  rw [Cert.Numbers.word_bot]
  exact Cert.Numbers.fold_minsi_eq _

variable (V : (c : Dev nD) → (b : Ref sig .tc) → Buf (Elt Ideal) ((c : Thread nD τ).loc b))

set_option maxHeartbeats 1600000 in
/-- The logits after the first region. -/
theorem logits_final (c : Dev nD) : (dat0 V c).arrAt 3 cfg0.N
    = fun j => headOf (V c main_v0) (V c main_arg1) (V c main_v1) (j 0) (j 1) := by
  refine (dat0 V c).arrAt_eq_of_covers 3 _ (by decide +kernel) fun t _ y => ?_
  blk_simp
  rw [after0_3]; frame_out
  pointwise [k0_pay1, headOf]
  blk_point [iblk0, idx0 t]

set_option maxHeartbeats 1600000 in
/-- A row's logits as a point of the first region computes them. -/
theorem head_block (c : Dev nD) (t : Fin cfg0.N) (r : Fin 256) (i : Fin 1024) (hi : i.val = t.val * 256 + r.val) (j : Fin 2048) :
    k0_pay1 (F := Ideal) (iblk0 V c 0 t) (iblk0 V c 1 t) (iblk0 V c 2 t) (ix2 r j)
      = headOf (V c main_v0) (V c main_arg1) (V c main_v1) i j := by
  pointwise [k0_pay1, headOf]
  blk_point [iblk0, idx0 t]

set_option maxHeartbeats 1600000 in
/-- The sampled bins after the first region. -/
theorem centers_final (c : Dev nD) : (dat0 V c).arrAt 4 cfg0.N
    = fun j => BitVec.ofNat 32 (Cert.Numbers.firstMax fun k : Fin 1024 =>
        headOf (V c main_v0) (V c main_arg1) (V c main_v1) (j 0) (Cert.Spec.col (j 1) k)).val := by
  refine (dat0 V c).arrAt_eq_of_covers 4 _ (by decide +kernel) fun t _ y => ?_
  blk_simp
  rw [after0_4]; frame_out
  canon_tiles x h
  case piece0 =>
    have e : x = ix2 (⟨(x 0).val, x0_lt⟩ : Fin 256) (0 : Fin 1) := by blk_ext
    rw [e]
    refine (pay3_at _ _ _ _).trans ?_
    refine congrArg (fun f => BitVec.ofNat 32 (Cert.Numbers.firstMax f).val) (funext fun k => ?_)
    refine (head_block V c t ⟨(x 0).val, x0_lt⟩ _ ?_ _).trans
      (congrArg (headOf (V c main_v0) (V c main_arg1) (V c main_v1) _) (Fin.ext ?_))
    · blk_simp [idx0 t]
      exact congrArg (t.val * 256 + ·) h0
    · show 1024 + k.val = _ * 1024 + k.val
      blk_simp [idx0 t] <;> try omega
  case piece1 =>
    have e : x = ix2 (⟨(x 0).val, x0_lt⟩ : Fin 256) (0 : Fin 1) := by blk_ext
    rw [e]
    refine (pay2_at _ _ _ _).trans ?_
    refine congrArg (fun f => BitVec.ofNat 32 (Cert.Numbers.firstMax f).val) (funext fun k => ?_)
    refine (head_block V c t ⟨(x 0).val, x0_lt⟩ _ ?_ _).trans
      (congrArg (headOf (V c main_v0) (V c main_arg1) (V c main_v1) _) (Fin.ext ?_))
    · blk_simp [idx0 t]
      exact congrArg (t.val * 256 + ·) h0
    · show k.val = _ * 1024 + k.val
      blk_simp [idx0 t] <;> try omega

end Cert.KernelValue
-- ==== Proof.Sweep.lean ====
module

public import proofs.«01_k».proof.Defs
public import proofs.«01_k».proof.Proof.Numbers
public import proofs.«01_k».proof.Proof.Spec
public import proofs.«01_k».proof.Proof.Gen.KernelIdeal
public import proofs.«01_k».proof.Proof.Gen.KernelIdeal.Frame
public import Idealize.ShloMosaic.Lib.Pointwise
public import Idealize.ShloMosaic.Lib.Pipeline.ValueKit

/-!
The second region: one sweep over the 71680 columns of the offsets head, 1280 of them at a point. Each column is
kept where its code is one of the row's two, and is added into the offset that is its remainder by 35.
-/

@[expose] public section

set_option maxRecDepth 16384

noncomputable section

namespace Cert.KernelValue

open Idealize.ShloMosaic Idealize.ShloMosaic.TcCoe Idealize.SL.Sem
open Idealize.ShloMosaic.Pipeline (Dat)
open Cert.KernelIdeal Cert.KernelIdeal.Gen

/-- The index maps of the second region's windows. -/
theorem idx1 : ∀ t : Fin cfg1.N, win1_0.index t = ![0, 0] ∧ win1_1.index t = ![0, t.val] ∧ win1_2.index t = ![0, t.val]
    ∧ win1_3.index t = ![0, 0] ∧ win1_4.index t = ![0, 0] := (by decide +kernel : ∀ t : Fin grid1.N, _)

/-- The grid's coordinate at a point of the second region. -/
theorem coord1 : ∀ t : Fin cfg1.N, (grid1.coords t 0).val = t.val := (by decide +kernel : ∀ t : Fin grid1.N, _)

/-- One or zero, as the code `q` is one of the two codes that the row's bins `c0` and `c1` have. -/
def maskOf (q c0 c1 : BitVec 32) : EReal :=
  FloatOps.sitofp (F := Ideal) .f32 (BitVec.setWidth 32
    (IntOp.ori (IntOp.cmpi .eq q c0) (IntOp.cmpi .eq q (IntOp.addi c1 1024#32))))

/-- The products of a point, read at an index: the product of the row and the column, where the column is kept. -/
theorem kept_at (w : FVec Ideal S1024x1280 .f32) (x : FVec Ideal S1024x1024 .bf16) (q : IVec S1x1280 32) (c0 c1 : IVec S1024x1 32)
    (r : Fin 1024) (l : Fin 1280) : k1_pay4 (F := Ideal) w x q c0 c1 (ix2 r l)
      = (∑ k : Fin 1024, x (ix2 r k) * w (ix2 k l)) * maskOf (q (ix2 (0 : Fin 1) l)) (c0 (ix2 r (0 : Fin 1))) (c1 (ix2 r (0 : Fin 1))) := by
  pointwise [k1_pay4, maskOf]

/-- The selector of a point, read at an index: one where the column's remainder by 35 is the offset. -/
theorem selector_at (i : grid1.Coords) (n : ℕ) (hi : (i 0).val = n) (hn : n < 56) (l : Fin 1280) (o : Fin 35) :
    k1_pay3 (F := Ideal) i (ix2 l o) = if (n * 1280 + l.val) % 35 = o.val then (1 : EReal) else 0 := by
  pointwise [k1_pay3]
  have e : (FloatOps.sitofp (F := Ideal) .f32 (BitVec.ofNat 32 l.val) : EReal)
      + (((Scalar.muli (BitVec.ofNat 32 n) 1280#32).toInt : ℝ) : EReal) = (((n * 1280 + l.val : ℕ) : ℝ) : EReal) := by
    have e1 : Scalar.muli (BitVec.ofNat 32 n) 1280#32 = BitVec.ofNat 32 (n * 1280) := (BitVec.ofNat_mul ..).symm
    have e2 : (FloatOps.sitofp (F := Ideal) .f32 (BitVec.ofNat 32 l.val) : EReal) = ((l.val : ℝ) : EReal) := by
      show (((BitVec.ofNat 32 l.val).toInt : ℝ) : EReal) = _
      rw [Cert.Numbers.number_of_word _ (by omega)]; simp
    rw [e1, e2, Cert.Numbers.number_of_word _ (by omega), ← EReal.coe_add]
    exact congrArg _ (by push_cast; ring)
  have eo : (FloatOps.sitofp (F := Ideal) .f32 (BitVec.ofNat 32 o.val) : EReal) = ((o.val : ℝ) : EReal) := by
    show (((BitVec.ofNat 32 o.val).toInt : ℝ) : EReal) = _
    rw [Cert.Numbers.number_of_word _ (by omega)]; simp
  rw [Cert.Numbers.number_of_bit, hi, e, eo]
  exact if_congr (Cert.Numbers.remainder _ (by omega) _) rfl rfl

/-- The accumulating step, read at an index. -/
theorem step_at (s : FVec Ideal S1280x35 .f32) (y : FVec Ideal S1024x1280 .f32) (a : FVec Ideal S1024x35 .f32) (r : Fin 1024) (o : Fin 35) :
    k1_pay2 (F := Ideal) s y (constant S1024x35 .f32 0x00000000#32) a (ix2 r o)
      = a (ix2 r o) + ∑ l : Fin 1280, y (ix2 r l) * s (ix2 l o) := by
  pointwise [k1_pay2]

/-- The zero fill. -/
theorem fill_at (j : S1024x35.Idx) : k1_pay1 (F := Ideal) j = (0 : EReal) := by
  pointwise [k1_pay1]

/-- A column's part of the sum, from a point's blocks. -/
def laneOf (n : ℕ) (x : FVec Ideal S1024x1024 .bf16) (w : FVec Ideal S1024x1280 .f32) (q : IVec S1x1280 32) (cc : IVec S1024x2 32)
    (r : Fin 1024) (o : Fin 35) (l : Fin 1280) : EReal :=
  (∑ k : Fin 1024, x (ix2 r k) * w (ix2 k l)) * maskOf (q (ix2 (0 : Fin 1) l)) (cc (ix2 r (0 : Fin 2))) (cc (ix2 r (1 : Fin 2)))
    * (if (n * 1280 + l.val) % 35 = o.val then (1 : EReal) else 0)

/-- A point's part of the sum, from its blocks. -/
def partOf (n : ℕ) (x : FVec Ideal S1024x1024 .bf16) (w : FVec Ideal S1024x1280 .f32) (q : IVec S1x1280 32) (cc : IVec S1024x2 32)
    (r : Fin 1024) (o : Fin 35) : EReal :=
  ∑ l : Fin 1280, laneOf n x w q cc r o l

/-- A point adds its part. -/
theorem part_at (i : grid1.Coords) (n : ℕ) (hi : (i 0).val = n) (hn : n < 56) (x : FVec Ideal S1024x1024 .bf16) (w : FVec Ideal S1024x1280 .f32)
    (q : IVec S1x1280 32) (cc : IVec S1024x2 32) (a : FVec Ideal S1024x35 .f32) (j : S1024x35.Idx) :
    k1_pay2 (F := Ideal) (k1_pay3 i) (k1_pay4 w x q (View.ld (Val := Elt Ideal) (S := S1024x2) (e' := .i32) cc (Rect.unit ![0, 0] ![1024, 1] inb_S1024x2_S1024x1_0_0))
      (View.ld (Val := Elt Ideal) (S := S1024x2) (e' := .i32) cc (Rect.unit ![0, 1] ![1024, 1] inb_S1024x2_S1024x1_0_1))) (constant S1024x35 .f32 0x00000000#32) a j
      = a j + partOf n x w q cc (j 0) (j 1) := by
  idx_vars j
  refine (step_at _ _ _ _ _).trans (congrArg (fun z : EReal => a _ + z) ?_)
  refine Finset.sum_congr rfl fun l _ => ?_
  rw [selector_at i n hi hn, kept_at]
  have e0 : View.ld (Val := Elt Ideal) (S := S1024x2) (e' := .i32) cc (Rect.unit ![0, 0] ![1024, 1] inb_S1024x2_S1024x1_0_0) (ix2 j0 (0 : Fin 1))
      = cc (ix2 j0 (0 : Fin 2)) := by
    refine View.ld_unit_apply_of _ _ _ _ _ _ fun a => ?_
    fin_cases a <;> simp [ix2]
  have e1 : View.ld (Val := Elt Ideal) (S := S1024x2) (e' := .i32) cc (Rect.unit ![0, 1] ![1024, 1] inb_S1024x2_S1024x1_0_1) (ix2 j0 (0 : Fin 1))
      = cc (ix2 j0 (1 : Fin 2)) := by
    refine View.ld_unit_apply_of _ _ _ _ _ _ fun a => ?_
    fin_cases a <;> simp [ix2]
  rw [e0, e1]; rfl

/-- A column's part of the sum, from the arrays. -/
def columnOf (x : FVec Ideal S1024x1024 .bf16) (w : FVec Ideal S1024x71680 .f32) (q : IVec S1x71680 32) (cc : IVec S1024x2 32)
    (r : Fin 1024) (o : Fin 35) (p : Fin 71680) : EReal :=
  (∑ k : Fin 1024, x (ix2 r k) * w (ix2 k p)) * maskOf (q (ix2 (0 : Fin 1) p)) (cc (ix2 r (0 : Fin 2))) (cc (ix2 r (1 : Fin 2)))
    * (if p.val % 35 = o.val then (1 : EReal) else 0)

variable (V : (c : Dev nD) → (b : Ref sig .tc) → Buf (Elt Ideal) ((c : Thread nD τ).loc b))

set_option maxHeartbeats 1600000 in
/-- A column's part, as the point that the column belongs to reads it. -/
theorem column_block (c : Dev nD) (t : Fin cfg1.N) (r i : Fin 1024) (hr : i.val = r.val) (o u : Fin 35) (hu : u.val = o.val)
    (l : Fin 1280) (p : Fin 71680) (hp : p.val = t.val * 1280 + l.val) :
    laneOf t.val (iblk1 V c 0 t) (iblk1 V c 1 t) (iblk1 V c 2 t) (iblk1 V c 3 t) r o l
      = columnOf (V c main_v3) (V c main_arg3) (V c main_v6) (V c main_v2_1) i u p := by
  obtain rfl : i = r := Fin.ext hr
  obtain rfl : u = o := Fin.ext hu
  unfold columnOf laneOf
  rw [hp]
  blk_point [iblk1, idx1 t]

set_option maxHeartbeats 1600000 in
/-- The selected offsets after the second region: the sum over all columns. -/
theorem sweep_final (c : Dev nD) : (dat1 V c).arrAt 4 cfg1.N
    = fun j => ∑ p : Fin 71680, columnOf (V c main_v3) (V c main_arg3) (V c main_v6) (V c main_v2_1) (j 0) (j 1) p := by
  refine (dat1 V c).arrAt_eq_of_covers 4 _ (by decide +kernel) fun t hf y => ?_
  blk_simp
  rw [after1_4, Pipeline.eq_sum_fin_of_reset_step_apply_of_flush (fun n h => outsAt1 V c n h) 56 (fun _ => (0 : EReal))
    (fun p j => partOf p.val (iblk1 V c 0 p) (iblk1 V c 1 p) (iblk1 V c 2 p) (iblk1 V c 3 p) (j 0) (j 1))
    (fun t h j => by
      rw [outsAt1_A V c t h]; frame_out
      exact (part_at _ _ (coord1 t) (lt_of_lt_of_eq t.isLt N_1) _ _ _ _ _ _).trans (congrArg (fun z : EReal => z + _) (fill_at _)))
    (fun t h j => by
      rw [outsAt1_B V c t h]; frame_out
      exact part_at _ _ (coord1 t) (lt_of_lt_of_eq t.isLt N_1) _ _ _ _ _ _)
    t ((flush1_4 t).mp hf) _, zero_add]
  refine Fin.sum_mul_add_congr fun s l hl => ?_
  have ht := lt_of_lt_of_eq t.isLt N_1
  have hs : 56 * (t.val / 56) + s.val = s.val := by omega
  refine column_block V c _ _ _ ?_ _ _ ?_ l _ ?_
  · blk_simp [idx1 t] <;> try omega
  · blk_simp [idx1 t] <;> try omega
  · show s.val * 1280 + l.val = (56 * (t.val / 56) + s.val) * 1280 + l.val
    rw [hs]

end Cert.KernelValue
-- ==== Proof.Decode.lean ====
module

public import proofs.«01_k».proof.Defs
public import proofs.«01_k».proof.Proof.Sweep
public import proofs.«01_k».proof.Proof.Gen.KernelIdeal
public import proofs.«01_k».proof.Proof.Gen.KernelIdeal.Frame
public import Idealize.ShloMosaic.Lib.Pointwise
public import Idealize.ShloMosaic.Lib.Pipeline.ValueKit

/-!
The third region, one point: the codebook rows of the sampled bins by a product with a row that has its ones at
the two bins, the decoder over them, and the offsets and their biases added to it.
-/

@[expose] public section

set_option maxRecDepth 16384

noncomputable section

namespace Cert.KernelValue

open Idealize.ShloMosaic Idealize.ShloMosaic.TcCoe Idealize.SL.Sem
open Idealize.ShloMosaic.Pipeline (Dat)
open Cert.KernelIdeal Cert.KernelIdeal.Gen

/-- The index maps of the third region's windows: every block is its whole array. -/
theorem idx2 : ∀ t : Fin cfg2.N, win2_0.index t = ![0, 0] ∧ win2_1.index t = ![0, 0] ∧ win2_2.index t = ![0, 0]
    ∧ win2_3.index t = ![0, 0] ∧ win2_4.index t = ![0, 0] ∧ win2_5.index t = ![0, 0] ∧ win2_6.index t = ![0, 0]
    ∧ win2_7.index t = ![0, 0] ∧ win2_8.index t = ![0, 0] ∧ win2_9.index t = ![0, 0] ∧ win2_10.index t = ![0, 0]
    ∧ win2_11.index t = ![0, 0] := (by decide +kernel : ∀ t : Fin grid2.N, _)

/-- The product of the row with its ones at the codes of the bins, and column `d` of `m`. -/
def pickedOf {n : ℕ} (cc : IVec S1024x2 32) (m : FVec Ideal ⟨2, ![2048, n]⟩ .f32) (r : Fin 1024) (d : Fin n) : EReal :=
  ∑ j : Fin 2048, maskOf (BitVec.ofNat 32 j.val) (cc (ix2 r (0 : Fin 2))) (cc (ix2 r (1 : Fin 2))) * m (ix2 j d)

/-- The decoder over the codebook rows, as the region computes it. -/
def decodeOf (cc : IVec S1024x2 32) (cb : FVec Ideal S2048x256 .f32) (w1 : FVec Ideal S256x512 .f32) (b1 : FVec Ideal S1x512 .f32)
    (w2 : FVec Ideal S512x512 .f32) (b2 : FVec Ideal S1x512 .f32) (w3 : FVec Ideal S512x35 .f32) (b3 : FVec Ideal S1x35 .f32)
    (r : Fin 1024) (o : Fin 35) : EReal :=
  ∑ q : Fin 512, max (∑ p : Fin 512, max (∑ d : Fin 256, pickedOf cc cb r d * w1 (ix2 d p) + b1 (ix2 (0 : Fin 1) p)) 0
    * w2 (ix2 p q) + b2 (ix2 (0 : Fin 1) q)) 0 * w3 (ix2 q o) + b3 (ix2 (0 : Fin 1) o)

set_option maxHeartbeats 1600000 in
/-- The decoded actions, read at an index. -/
theorem decoded_pay (a0 : IVec S1024x2 32) (a1 : FVec Ideal S2048x256 .f32) (a2 : FVec Ideal S2048x35 .f32) (a3 : FVec Ideal S256x512 .f32) (a4 : FVec Ideal S1x512 .f32) (a5 : FVec Ideal S512x512 .f32) (a6 : FVec Ideal S1x512 .f32) (a7 : FVec Ideal S512x35 .f32) (a8 : FVec Ideal S1x35 .f32) (a9 : FVec Ideal S1024x35 .f32) (r : Fin 1024) (o : Fin 35) :
    k2_pay1 (F := Ideal) (k2_pay6 a0 a1 a2 a3 a4 a5 a6 a7 a8 a9)
      (k2_pay7 a0 a1 a2 a3 a4 a5 a6 a7 a8 a9) (ix2 r o)
      = decodeOf a0 a1 a3 a4 a5 a6 a7 a8 r o := by
  unfold k2_pay6 k2_pay7
  frame_out
  pointwise [k2_pay1, k2_pay4, k2_pay5, k2_pay3, decodeOf, pickedOf, maskOf]

/-- The bins' row of ones, read at an index. -/
theorem ones_at (a0 : IVec S1024x2 32) (r : Fin 1024) (j : Fin 2048) :
    k2_pay3 (F := Ideal) a0 (ix2 r j) = maskOf (BitVec.ofNat 32 j.val) (a0 (ix2 r (0 : Fin 2))) (a0 (ix2 r (1 : Fin 2))) := by
  pointwise [k2_pay3, maskOf]

/-- The last step, read at an index: the decoded action, the offsets, and the product with the offset biases. -/
theorem last_at (y : FVec Ideal S1024x2048 .f32) (z : FVec Ideal S1024x35 .f32) (b : FVec Ideal S1x35 .f32)
    (m : FVec Ideal S2048x35 .f32) (s : FVec Ideal S1024x35 .f32) (r : Fin 1024) (o : Fin 35) :
    k2_pay2 (F := Ideal) y z b m s (ix2 r o)
      = k2_pay1 (F := Ideal) z b (ix2 r o) + s (ix2 r o) + ∑ j : Fin 2048, y (ix2 r j) * m (ix2 j o) := by
  pointwise [k2_pay2, k2_pay1]

/-- The predicted actions, read at an index. -/
theorem predicted_pay (a0 : IVec S1024x2 32) (a1 : FVec Ideal S2048x256 .f32) (a2 : FVec Ideal S2048x35 .f32) (a3 : FVec Ideal S256x512 .f32) (a4 : FVec Ideal S1x512 .f32) (a5 : FVec Ideal S512x512 .f32) (a6 : FVec Ideal S1x512 .f32) (a7 : FVec Ideal S512x35 .f32) (a8 : FVec Ideal S1x35 .f32) (a9 : FVec Ideal S1024x35 .f32) (r : Fin 1024) (o : Fin 35) :
    k2_pay2 (F := Ideal) (k2_pay3 a0) (k2_pay6 a0 a1 a2 a3 a4 a5 a6 a7 a8 a9)
      (k2_pay7 a0 a1 a2 a3 a4 a5 a6 a7 a8 a9) a2 a9 (ix2 r o)
      = decodeOf a0 a1 a3 a4 a5 a6 a7 a8 r o + a9 (ix2 r o) + pickedOf a0 a2 r o :=
  (last_at _ _ _ _ _ _ _).trans (congrArg₂ (fun u v : EReal => u + a9 (ix2 r o) + v)
    (decoded_pay a0 a1 a2 a3 a4 a5 a6 a7 a8 a9 r o)
    (Finset.sum_congr rfl fun j _ => congrArg (fun u : EReal => u * a2 (ix2 j o)) (ones_at a0 r j)))

variable (V : (c : Dev nD) → (b : Ref sig .tc) → Buf (Elt Ideal) ((c : Thread nD τ).loc b))

/-! ## Every block of the third region is its whole array -/

/-- The block of the sampled bins is the whole array. -/
theorem block2_0 (c : Dev nD) : (iblk2 V c 0 t2_0 : IVec S1024x2 32) = V c main_v2_1 := by
  blk_ext! [iblk2, idx2 t2_0]

/-- The block of the codebooks is the whole array. -/
theorem block2_1 (c : Dev nD) : (iblk2 V c 1 t2_0 : FVec Ideal S2048x256 .f32) = V c main_v8 := by
  blk_ext! [iblk2, idx2 t2_0]

/-- The block of the offset biases is the whole array. -/
theorem block2_2 (c : Dev nD) : (iblk2 V c 2 t2_0 : FVec Ideal S2048x35 .f32) = V c main_v9 := by
  blk_ext! [iblk2, idx2 t2_0]

/-- The block of the first layer's weights is the whole array. -/
theorem block2_3 (c : Dev nD) : (iblk2 V c 3 t2_0 : FVec Ideal S256x512 .f32) = V c main_arg6 := by
  blk_ext! [iblk2, idx2 t2_0]

/-- The block of the first layer's bias is the whole array. -/
theorem block2_4 (c : Dev nD) : (iblk2 V c 4 t2_0 : FVec Ideal S1x512 .f32) = V c main_v10 := by
  blk_ext! [iblk2, idx2 t2_0]

/-- The block of the second layer's weights is the whole array. -/
theorem block2_5 (c : Dev nD) : (iblk2 V c 5 t2_0 : FVec Ideal S512x512 .f32) = V c main_arg8 := by
  blk_ext! [iblk2, idx2 t2_0]

/-- The block of the second layer's bias is the whole array. -/
theorem block2_6 (c : Dev nD) : (iblk2 V c 6 t2_0 : FVec Ideal S1x512 .f32) = V c main_v11 := by
  blk_ext! [iblk2, idx2 t2_0]

/-- The block of the third layer's weights is the whole array. -/
theorem block2_7 (c : Dev nD) : (iblk2 V c 7 t2_0 : FVec Ideal S512x35 .f32) = V c main_arg10 := by
  blk_ext! [iblk2, idx2 t2_0]

/-- The block of the third layer's bias is the whole array. -/
theorem block2_8 (c : Dev nD) : (iblk2 V c 8 t2_0 : FVec Ideal S1x35 .f32) = V c main_v12 := by
  blk_ext! [iblk2, idx2 t2_0]

/-- The block of the swept offsets is the whole array. -/
theorem block2_9 (c : Dev nD) : (iblk2 V c 9 t2_0 : FVec Ideal S1024x35 .f32) = V c main_v7 := by
  blk_ext! [iblk2, idx2 t2_0]

/-- The decoded actions after the third region. -/
theorem decoded_final (c : Dev nD) : (dat2 V c).arrAt 10 cfg2.N
    = k2_pay1 (F := Ideal) (k2_pay6 (V c main_v2_1) (V c main_v8) (V c main_v9) (V c main_arg6) (V c main_v10) (V c main_arg8) (V c main_v11) (V c main_arg10) (V c main_v12) (V c main_v7))
      (k2_pay7 (V c main_v2_1) (V c main_v8) (V c main_v9) (V c main_arg6) (V c main_v10) (V c main_arg8) (V c main_v11) (V c main_arg10) (V c main_v12) (V c main_v7)) := by
  refine (dat2 V c).arrAt_eq_of_after_last 10 t2_0 (by decide +kernel) _ fun j => ?_
  blk_simp
  rw [after2_10]; frame_out
  rw [block2_0 V c, block2_1 V c, block2_2 V c, block2_3 V c, block2_4 V c, block2_5 V c, block2_6 V c, block2_7 V c, block2_8 V c, block2_9 V c]

/-- The predicted actions after the third region. -/
theorem predicted_final (c : Dev nD) : (dat2 V c).arrAt 11 cfg2.N
    = k2_pay2 (F := Ideal) (k2_pay3 (V c main_v2_1)) (k2_pay6 (V c main_v2_1) (V c main_v8) (V c main_v9) (V c main_arg6) (V c main_v10) (V c main_arg8) (V c main_v11) (V c main_arg10) (V c main_v12) (V c main_v7))
      (k2_pay7 (V c main_v2_1) (V c main_v8) (V c main_v9) (V c main_arg6) (V c main_v10) (V c main_arg8) (V c main_v11) (V c main_arg10) (V c main_v12) (V c main_v7)) (V c main_v9) (V c main_v7) := by
  refine (dat2 V c).arrAt_eq_of_after_last 11 t2_0 (by decide +kernel) _ fun j => ?_
  blk_simp
  rw [after2_11]; frame_out
  rw [block2_0 V c, block2_1 V c, block2_2 V c, block2_3 V c, block2_4 V c, block2_5 V c, block2_6 V c, block2_7 V c, block2_8 V c, block2_9 V c]

end Cert.KernelValue
-- ==== Proof.Equation.lean ====
module

public import proofs.«01_k».proof.Proof.Heads
public import proofs.«01_k».proof.Proof.Sweep
public import proofs.«01_k».proof.Proof.Decode

/-!
The kernel's sums against the specification's: a product with a row that has its ones at the two sampled bins is the
sum of the two entries there, and so the sweep's sum over all columns is the sum of the two selected ones.
-/

@[expose] public section

set_option maxRecDepth 16384

noncomputable section

namespace Cert.KernelValue

open Idealize.ShloMosaic Idealize.ShloMosaic.TcCoe Idealize.SL.Sem
open Cert.KernelIdeal Cert.KernelIdeal.Gen
open Cert.Numbers Cert.Spec

/-- The bin head over the rows and the bias as a row is the specification's. -/
theorem headOf_eq (a : FVec Ideal ⟨3, ![64, 16, 1024]⟩ .f32) (b : FVec Ideal ⟨1, ![2048]⟩ .f32) (x : FVec Ideal S1024x1024 .f32)
    (w : FVec Ideal S1024x2048 .f32) (b' : FVec Ideal S1x2048 .f32) (hx : ∀ r k, x (ix2 r k) = rows a r k)
    (hb : ∀ j, b' (ix2 (0 : Fin 1) j) = b (ix1 j)) (r : Fin 1024) (j : Fin 2048) :
    headOf x w b' r j = logit (rows a) w b r j := by
  unfold headOf logit
  simp only [hx, hb]

/-- The mask of a code below 2048, at the words of the sampled bins. -/
theorem maskOf_eq (c : Fin 2 → Fin 1024) (j : ℕ) (hj : j < 2048) :
    maskOf (BitVec.ofNat 32 j) (BitVec.ofNat 32 (c 0).val) (BitVec.ofNat 32 (c 1).val)
      = if j = (c 0).val ∨ j = 1024 + (c 1).val then (1 : EReal) else 0 :=
  hot (c 0) (c 1) j hj

/-- A column's part: the product of the row and the column, for the two selected columns alone. -/
theorem columnOf_eq (x : FVec Ideal S1024x1024 .bf16) (w : FVec Ideal S1024x71680 .f32) (q : IVec S1x71680 32) (cc : IVec S1024x2 32)
    (c : Fin 2 → Fin 1024) (r : Fin 1024) (o : Fin 35) (p : Fin 71680) (hq : q (ix2 (0 : Fin 1) p) = BitVec.ofNat 32 (p.val / 35))
    (hc : ∀ g, cc (ix2 r g) = BitVec.ofNat 32 (c g).val) :
    columnOf x w q cc r o p = (if p = offCol 0 (c 0) o ∨ p = offCol 1 (c 1) o then (1 : EReal) else 0)
      * ∑ k : Fin 1024, x (ix2 r k) * w (ix2 k p) := by
  unfold columnOf
  rw [hq, hc, hc, maskOf_eq c _ (by omega)]
  generalize (∑ k : Fin 1024, x (ix2 r k) * w (ix2 k p) : EReal) = s
  have h0 : p = offCol 0 (c 0) o ↔ p.val / 35 = (c 0).val ∧ p.val % 35 = o.val := by
    rw [Fin.ext_iff]; simp only [offCol]
    have := o.isLt
    constructor
    · intro h; rw [h]; simp; omega
    · intro h; simp; omega
  have h1 : p = offCol 1 (c 1) o ↔ p.val / 35 = 1024 + (c 1).val ∧ p.val % 35 = o.val := by
    rw [Fin.ext_iff]; simp only [offCol]
    have := o.isLt
    constructor
    · intro h; rw [h]; simp; omega
    · intro h; simp; omega
  rw [if_congr ((or_congr h0 h1).trans or_and_right.symm) rfl rfl]
  by_cases ho : p.val % 35 = o.val
  · by_cases hd : p.val / 35 = (c 0).val ∨ p.val / 35 = 1024 + (c 1).val
    · rw [if_pos hd, if_pos ho, if_pos ⟨hd, ho⟩]; simp
    · rw [if_neg hd, if_neg (show ¬ (_ ∧ _) from fun h => hd h.1)]; simp
  · rw [if_neg ho, if_neg (show ¬ (_ ∧ _) from fun h => ho h.2)]; simp

/-- The sweep's sum over all columns: the two selected entries of the offsets head, before its bias. -/
theorem sweep_eq (a : FVec Ideal ⟨3, ![64, 16, 1024]⟩ .f32) (x : FVec Ideal S1024x1024 .bf16) (w : FVec Ideal S1024x71680 .f32)
    (q : IVec S1x71680 32) (cc : IVec S1024x2 32) (hx : ∀ r k, x (ix2 r k) = rows a r k)
    (c : Fin 2 → Fin 1024) (r : Fin 1024) (o : Fin 35) (hq : ∀ p : Fin 71680, q (ix2 (0 : Fin 1) p) = BitVec.ofNat 32 (p.val / 35))
    (hc : ∀ g, cc (ix2 r g) = BitVec.ofNat 32 (c g).val) :
    ∑ p : Fin 71680, columnOf x w q cc r o p
      = offset (rows a) w r (offCol 0 (c 0) o) + offset (rows a) w r (offCol 1 (c 1) o) := by
  have hne : offCol 0 (c 0) o ≠ offCol 1 (c 1) o := fun h => by
    have h' := Fin.ext_iff.mp h
    simp only [offCol] at h'
    have := (c 0).isLt; have := o.isLt
    simp at h'
    omega
  rw [← sum_two (fun p => offset (rows a) w r p) _ _ hne]
  refine Finset.sum_congr rfl fun p _ => (columnOf_eq x w q cc c r o p (hq p) hc).trans ?_
  unfold offset
  simp only [hx]

/-- A product with the bins' row of ones: the sum of the two rows there. -/
theorem pickedOf_eq {n : ℕ} (cc : IVec S1024x2 32) (m : FVec Ideal ⟨2, ![2048, n]⟩ .f32) (c : Fin 2 → Fin 1024) (r : Fin 1024)
    (hc : ∀ g, cc (ix2 r g) = BitVec.ofNat 32 (c g).val) (d : Fin n) :
    pickedOf cc m r d = m (ix2 (col 0 (c 0)) d) + m (ix2 (col 1 (c 1)) d) := by
  have hne : col 0 (c 0) ≠ col 1 (c 1) := fun h => by
    have h' := Fin.ext_iff.mp h
    simp only [col] at h'
    have := (c 0).isLt
    simp at h'
    omega
  rw [← sum_two (fun j => m (ix2 j d)) _ _ hne]
  refine Finset.sum_congr rfl fun j _ => ?_
  rw [hc, hc, maskOf_eq c _ j.isLt]
  refine congrArg (· * m (ix2 j d)) (if_congr (or_congr ?_ ?_) rfl rfl)
  · rw [Fin.ext_iff]; simp [col]
  · rw [Fin.ext_iff]; simp [col]

/-- The region's decoder is the specification's, over the sampled codebook rows. -/
theorem decodeOf_eq (cc : IVec S1024x2 32) (cb : FVec Ideal S2048x256 .f32) (w1 : FVec Ideal S256x512 .f32) (b1 : FVec Ideal S1x512 .f32)
    (w2 : FVec Ideal S512x512 .f32) (b2 : FVec Ideal S1x512 .f32) (w3 : FVec Ideal S512x35 .f32) (b3 : FVec Ideal S1x35 .f32)
    (c : Fin 2 → Fin 1024) (r : Fin 1024) (hc : ∀ g, cc (ix2 r g) = BitVec.ofNat 32 (c g).val)
    (cb' : FVec Ideal ⟨3, ![2, 1024, 256]⟩ .f32) (b1' : FVec Ideal ⟨1, ![512]⟩ .f32) (b2' : FVec Ideal ⟨1, ![512]⟩ .f32)
    (b3' : FVec Ideal ⟨1, ![35]⟩ .f32) (hcb : ∀ g (k : Fin 1024) d, cb (ix2 (col g k) d) = cb' (ix3 g k d))
    (h1 : ∀ p, b1 (ix2 (0 : Fin 1) p) = b1' (ix1 p)) (h2 : ∀ p, b2 (ix2 (0 : Fin 1) p) = b2' (ix1 p))
    (h3 : ∀ p, b3 (ix2 (0 : Fin 1) p) = b3' (ix1 p)) (o : Fin 35) :
    decodeOf cc cb w1 b1 w2 b2 w3 b3 r o = decode (embed cb' c) w1 b1' w2 b2' w3 b3' o := by
  have he : ∀ d, pickedOf cc cb r d = embed cb' c d := fun d => by
    rw [pickedOf_eq cc cb c r hc, hcb, hcb]
    exact (Fin.sum_univ_two (fun g => cb' (ix3 g (c g) d))).symm
  unfold decodeOf decode
  simp only [he, h1, h2, h3]

/-- The predicted action: the decoded one, the two selected offsets and their two biases, in either order of addition. -/
theorem predicted_eq (a : FVec Ideal ⟨3, ![64, 16, 1024]⟩ .f32) (w : FVec Ideal ⟨2, ![1024, 71680]⟩ .f32) (b : FVec Ideal ⟨1, ![71680]⟩ .f32)
    (c : Fin 2 → Fin 1024) (r : Fin 1024) (o : Fin 35) (z : EReal) :
    z + (offset (rows a) w r (offCol 0 (c 0) o) + offset (rows a) w r (offCol 1 (c 1) o))
      + (b (ix1 (offCol 0 (c 0) o)) + b (ix1 (offCol 1 (c 1) o))) = z + offsets (rows a) w b c r o := by
  unfold offsets
  rw [Fin.sum_univ_two, add_assoc, add_add_add_comm]

end Cert.KernelValue
-- ==== Proof.Results.lean ====
module

public import proofs.«01_k».proof.Proof.Host
public import proofs.«01_k».proof.Proof.Equation

/-!
The kernel's four results, from its arguments: the boundaries between stretches and regions, each read through the
ones before it.
-/

@[expose] public section

set_option maxRecDepth 16384

noncomputable section

namespace Cert.KernelValue

open Idealize.ShloMosaic Idealize.ShloMosaic.TcCoe Idealize.SL.Sem
open Cert.KernelIdeal Cert.KernelIdeal.Gen
open Cert.Numbers Cert.Spec

variable (m : (ℓ : Loc nD τ sig) → Buf (Elt Ideal) ℓ) (ρ : Dev nD → PrngReg) (c : Dev nD)

/-! ## The arguments -/

/-- The activations. -/
abbrev argX : FVec Ideal S64x16x1024 .f32 := m ((c.tc : Thread nD τ).loc main_arg0)
/-- The bin head's weights. -/
abbrev argWbin : FVec Ideal S1024x2048 .f32 := m ((c.tc : Thread nD τ).loc main_arg1)
/-- The bin head's bias. -/
abbrev argBbin : FVec Ideal S2048 .f32 := m ((c.tc : Thread nD τ).loc main_arg2)
/-- The offsets head's weights. -/
abbrev argWoff : FVec Ideal S1024x71680 .f32 := m ((c.tc : Thread nD τ).loc main_arg3)
/-- The offsets head's bias. -/
abbrev argBoff : FVec Ideal S71680 .f32 := m ((c.tc : Thread nD τ).loc main_arg4)
/-- The codebooks. -/
abbrev argBooks : FVec Ideal S2x1024x256 .f32 := m ((c.tc : Thread nD τ).loc main_arg5)

/-- The bin sampled for a group at a row. -/
abbrev bin (r : Fin 1024) (g : Fin 2) : Fin 1024 := center (rows (argX m c)) (argWbin m c) (argBbin m c) r g

/-! ## The first region -/

/-- The first region reads the activations, one row per token. -/
theorem rows_1 (r k : Fin 1024) : (W1 m ρ c (Proc.devRef .tc main_v0) : FVec Ideal S1024x1024 .f32) (ix2 r k) = rows (argX m c) r k :=
  host_rows (W0 m ρ c) r k

/-- The first region reads the bin head's bias as a row. -/
theorem bias_1 (j : Fin 2048) : (W1 m ρ c (Proc.devRef .tc main_v1) : FVec Ideal S1x2048 .f32) (ix2 (0 : Fin 1) j) = argBbin m c (ix1 j) :=
  host_head_bias (W0 m ρ c) j

/-- The first region reads the bin head's weights. -/
theorem weights_1 : W1 m ρ c (Proc.devRef .tc main_arg1) = argWbin m c := W1_args m ρ c main_arg1 (by decide)

/-- The bin head over what the first region reads is the logits. -/
theorem head_1 (r : Fin 1024) (j : Fin 2048) : headOf (V1 m ρ c main_v0) (V1 m ρ c main_arg1) (V1 m ρ c main_v1) r j
    = logit (rows (argX m c)) (argWbin m c) (argBbin m c) r j := by
  refine (headOf_eq (argX m c) (argBbin m c) _ _ _ (rows_1 m ρ c) (bias_1 m ρ c) r j).trans ?_
  exact congrArg (fun w => logit (rows (argX m c)) w (argBbin m c) r j) (weights_1 m ρ c)

/-- The first region leaves the logits. -/
theorem logits_2 (r : Fin 1024) (j : Fin 2048) : (W2 m ρ c (Proc.devRef .tc main_v2_0) : FVec Ideal S1024x2048 .f32) (ix2 r j)
    = logit (rows (argX m c)) (argWbin m c) (argBbin m c) r j :=
  (congrFun ((W2_arr m ρ c 3).trans (logits_final (V1 m ρ) c)) (ix2 r j)).trans (head_1 m ρ c r j)

/-- The first region leaves the sampled bins. -/
theorem bins_2 (r : Fin 1024) (g : Fin 2) : (W2 m ρ c (Proc.devRef .tc main_v2_1) : IVec S1024x2 32) (ix2 r g)
    = BitVec.ofNat 32 (bin m c r g).val :=
  (congrFun ((W2_arr m ρ c 4).trans (centers_final (V1 m ρ) c)) (ix2 r g)).trans
    (congrArg (fun f => BitVec.ofNat 32 (firstMax f).val) (funext fun k => head_1 m ρ c r (col g k)))

/-! ## The second region -/

/-- The second region reads the activations, whose narrower format changes no value. -/
theorem rows_5 (r k : Fin 1024) : (W5 m ρ c (Proc.devRef .tc main_v3) : FVec Ideal S1024x1024 .bf16) (ix2 r k) = rows (argX m c) r k := by
  have h : W5 m ρ c (Proc.devRef .tc main_v3) = W1 m ρ c (Proc.devRef .tc main_v0) :=
    (W5_of m ρ c main_v3 (by decide)).trans ((W4_of m ρ c main_v3 (by decide)).trans
      ((host_narrow (W2 m ρ c)).trans (W2_of m ρ c main_v0 (by decide))))
  exact (congrFun h (ix2 r k)).trans (rows_1 m ρ c r k)

/-- The second region reads every column's code, the quotient by 35. -/
theorem codes_5 (p : Fin 71680) : (W5 m ρ c (Proc.devRef .tc main_v6) : IVec S1x71680 32) (ix2 (0 : Fin 1) p)
    = BitVec.ofNat 32 (p.val / 35) :=
  (host_codes (W4 m ρ c) p).trans (host_quotient (W3 m ρ c) p (host_columns (W2 m ρ c) p) (host_divisor (W2 m ρ c)))

/-- The second region reads the sampled bins. -/
theorem bins_5 (r : Fin 1024) (g : Fin 2) : (W5 m ρ c (Proc.devRef .tc main_v2_1) : IVec S1024x2 32) (ix2 r g)
    = BitVec.ofNat 32 (bin m c r g).val := by
  have h : W5 m ρ c (Proc.devRef .tc main_v2_1) = W2 m ρ c (Proc.devRef .tc main_v2_1) :=
    (W5_of m ρ c main_v2_1 (by decide)).trans ((W4_of m ρ c main_v2_1 (by decide)).trans (W3_of m ρ c main_v2_1 (by decide)))
  exact (congrFun h (ix2 r g)).trans (bins_2 m ρ c r g)

/-- The second region leaves the offsets of the two sampled bins, added, without their biases. -/
theorem sweep_6 (r : Fin 1024) (o : Fin 35) : (W6 m ρ c (Proc.devRef .tc main_v7) : FVec Ideal S1024x35 .f32) (ix2 r o)
    = offset (rows (argX m c)) (argWoff m c) r (offCol 0 (bin m c r 0) o)
      + offset (rows (argX m c)) (argWoff m c) r (offCol 1 (bin m c r 1) o) := by
  refine (congrFun ((W6_arr m ρ c 4).trans (sweep_final (V5 m ρ) c)) (ix2 r o)).trans ?_
  refine (sweep_eq (argX m c) _ _ _ _ (rows_5 m ρ c) (bin m c r) r o (codes_5 m ρ c) (bins_5 m ρ c r)).trans ?_
  exact congrArg (fun w => offset (rows (argX m c)) w r (offCol 0 (bin m c r 0) o)
    + offset (rows (argX m c)) w r (offCol 1 (bin m c r 1) o)) (W5_args m ρ c main_arg3 (by decide))

/-! ## The third region -/

/-- The third region reads the sampled bins. -/
theorem bins_7 (r : Fin 1024) (g : Fin 2) : (W7 m ρ c (Proc.devRef .tc main_v2_1) : IVec S1024x2 32) (ix2 r g)
    = BitVec.ofNat 32 (bin m c r g).val := by
  have h : W7 m ρ c (Proc.devRef .tc main_v2_1) = W5 m ρ c (Proc.devRef .tc main_v2_1) :=
    (W7_of m ρ c main_v2_1 (by decide)).trans (W6_of m ρ c main_v2_1 (by decide))
  exact (congrFun h (ix2 r g)).trans (bins_5 m ρ c r g)

/-- The third region reads the codebooks, the groups' rows one after the other. -/
theorem books_7 (g : Fin 2) (k : Fin 1024) (d : Fin 256) : (W7 m ρ c (Proc.devRef .tc main_v8) : FVec Ideal S2048x256 .f32) (ix2 (col g k) d)
    = argBooks m c (ix3 g k d) := by
  refine (host_codebooks (W6 m ρ c) (col g k) d).trans ?_
  refine (congrFun (W6_args m ρ c main_arg5 (by decide)) _).trans ?_
  have hg : (⟨(col g k).val / 1024, by omega⟩ : Fin 2) = g := Fin.ext (by show (g.val * 1024 + k.val) / 1024 = g.val; omega)
  have hk : (⟨(col g k).val % 1024, by omega⟩ : Fin 1024) = k := Fin.ext (by show (g.val * 1024 + k.val) % 1024 = k.val; omega)
  rw [hg, hk]

/-- The third region reads the offsets' biases, one row per bin of a group. -/
theorem offset_bias_7 (g : Fin 2) (k : Fin 1024) (o : Fin 35) : (W7 m ρ c (Proc.devRef .tc main_v9) : FVec Ideal S2048x35 .f32) (ix2 (col g k) o)
    = argBoff m c (ix1 (offCol g k o)) :=
  (host_offset_bias (W6 m ρ c) (col g k) o).trans (congrFun (W6_args m ρ c main_arg4 (by decide)) _)

/-- The third region reads what the second left. -/
theorem sweep_7 (r : Fin 1024) (o : Fin 35) : (W7 m ρ c (Proc.devRef .tc main_v7) : FVec Ideal S1024x35 .f32) (ix2 r o)
    = offset (rows (argX m c)) (argWoff m c) r (offCol 0 (bin m c r 0) o)
      + offset (rows (argX m c)) (argWoff m c) r (offCol 1 (bin m c r 1) o) :=
  (congrFun (W7_of m ρ c main_v7 (by decide)) (ix2 r o)).trans (sweep_6 m ρ c r o)

/-- The decoder over the sampled codebook rows, at a row. -/
abbrev decodedAt (r : Fin 1024) (o : Fin 35) : EReal :=
  decode (embed (argBooks m c) (bin m c r)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) o

/-- The decoder over what the third region reads is the decoder over the arguments. -/
theorem decode_7 (r : Fin 1024) (o : Fin 35) :
    decodeOf (V7 m ρ c main_v2_1) (V7 m ρ c main_v8) (V7 m ρ c main_arg6) (V7 m ρ c main_v10) (V7 m ρ c main_arg8) (V7 m ρ c main_v11)
      (V7 m ρ c main_arg10) (V7 m ρ c main_v12) r o = decodedAt m c r o := by
  refine (decodeOf_eq _ _ _ _ _ _ _ _ (bin m c r) r (bins_7 m ρ c r) (argBooks m c) (m ((c.tc : Thread nD τ).loc main_arg7))
    (m ((c.tc : Thread nD τ).loc main_arg9)) (m ((c.tc : Thread nD τ).loc main_arg11)) (books_7 m ρ c)
    (fun p => (host_bias1 (W6 m ρ c) p).trans (congrFun (W6_args m ρ c main_arg7 (by decide)) _))
    (fun p => (host_bias2 (W6 m ρ c) p).trans (congrFun (W6_args m ρ c main_arg9 (by decide)) _))
    (fun p => (host_bias3 (W6 m ρ c) p).trans (congrFun (W6_args m ρ c main_arg11 (by decide)) _)) o).trans ?_
  rw [show V7 m ρ c main_arg6 = m ((c.tc : Thread nD τ).loc main_arg6) from W7_args m ρ c main_arg6 (by decide),
    show V7 m ρ c main_arg8 = m ((c.tc : Thread nD τ).loc main_arg8) from W7_args m ρ c main_arg8 (by decide),
    show V7 m ρ c main_arg10 = m ((c.tc : Thread nD τ).loc main_arg10) from W7_args m ρ c main_arg10 (by decide)]

/-- The third region leaves the decoded actions. -/
theorem decoded_8 (r : Fin 1024) (o : Fin 35) : (W8 m ρ c (Proc.devRef .tc main_v13_0) : FVec Ideal S1024x35 .f32) (ix2 r o)
    = decodedAt m c r o :=
  (congrFun ((W8_arr m ρ c 10).trans (decoded_final (V7 m ρ) c)) (ix2 r o)).trans
    ((decoded_pay _ _ _ _ _ _ _ _ _ _ r o).trans (decode_7 m ρ c r o))

/-- The third region leaves the decoded actions with the offsets added. -/
theorem predicted_8 (r : Fin 1024) (o : Fin 35) : (W8 m ρ c (Proc.devRef .tc main_v13_1) : FVec Ideal S1024x35 .f32) (ix2 r o)
    = decodedAt m c r o + offsets (rows (argX m c)) (argWoff m c) (argBoff m c) (bin m c r) r o := by
  refine (congrFun ((W8_arr m ρ c 11).trans (predicted_final (V7 m ρ) c)) (ix2 r o)).trans ?_
  refine (predicted_pay _ _ _ _ _ _ _ _ _ _ r o).trans ?_
  refine Eq.trans ?_ (predicted_eq (argX m c) (argWoff m c) (argBoff m c) (bin m c r) r o (decodedAt m c r o))
  refine congrArg₂ (fun u v : EReal => u + v) (congrArg₂ (fun u v : EReal => u + v) (decode_7 m ρ c r o) (sweep_7 m ρ c r o)) ?_
  refine (pickedOf_eq _ _ (bin m c r) r (bins_7 m ρ c r) o).trans ?_
  exact congrArg₂ (fun u v : EReal => u + v) (offset_bias_7 m ρ c 0 _ o) (offset_bias_7 m ρ c 1 _ o)

/-! ## The results -/

/-- The first result: the logits of the bin head. -/
theorem result_logits (r : Fin 1024) (g : Fin 2) (k : Fin 1024) :
    (W9 m ρ c (Proc.devRef .tc main_v14) : FVec Ideal S1024x2x1024 .f32) (ix3 r g k)
      = logit (rows (argX m c)) (argWbin m c) (argBbin m c) r (col g k) := by
  have h : W8 m ρ c (Proc.devRef .tc main_v2_0) = W2 m ρ c (Proc.devRef .tc main_v2_0) :=
    (W8_of m ρ c main_v2_0 (by decide)).trans ((W7_of m ρ c main_v2_0 (by decide)).trans ((W6_of m ρ c main_v2_0 (by decide)).trans
      ((W5_of m ρ c main_v2_0 (by decide)).trans ((W4_of m ρ c main_v2_0 (by decide)).trans (W3_of m ρ c main_v2_0 (by decide))))))
  exact (host_logits (W8 m ρ c) r g k).trans ((congrFun h _).trans (logits_2 m ρ c r _))

/-- The second result: the predicted actions. -/
theorem result_predicted (n : Fin 64) (t : Fin 16) (o : Fin 35) :
    (W9 m ρ c (Proc.devRef .tc main_v15) : FVec Ideal S64x16x35 .f32) (ix3 n t o)
      = decodedAt m c ⟨n.val * 16 + t.val, by omega⟩ o
        + offsets (rows (argX m c)) (argWoff m c) (argBoff m c) (bin m c ⟨n.val * 16 + t.val, by omega⟩) ⟨n.val * 16 + t.val, by omega⟩ o :=
  (host_predicted (W8 m ρ c) n t o).trans (predicted_8 m ρ c _ o)

/-- The third result: the sampled bins. -/
theorem result_bins (r : Fin 1024) (g : Fin 2) :
    (W9 m ρ c (Proc.devRef .tc main_v2_1) : IVec S1024x2 32) (ix2 r g) = BitVec.ofNat 32 (bin m c r g).val := by
  have h : W9 m ρ c (Proc.devRef .tc main_v2_1) = W7 m ρ c (Proc.devRef .tc main_v2_1) :=
    (W9_of m ρ c main_v2_1 (by decide)).trans (W8_of m ρ c main_v2_1 (by decide))
  exact (congrFun h (ix2 r g)).trans (bins_7 m ρ c r g)

/-- The fourth result: the decoded actions. -/
theorem result_decoded (r : Fin 1024) (w : Fin 5) (a : Fin 7) :
    (W9 m ρ c (Proc.devRef .tc main_v16) : FVec Ideal S1024x5x7 .f32) (ix3 r w a) = decodedAt m c r ⟨w.val * 7 + a.val, by omega⟩ :=
  (host_decoded (W8 m ρ c) r w a).trans (decoded_8 m ρ c r _)

end Cert.KernelValue
-- ==== Proof.Softmax.lean ====
/-
  The softmax of a row of real numbers keeps the row's order: the reference takes its arg-max after the softmax of the
  logits divided by a temperature, the kernel of the logits themselves, and on real logits the two find the same place.
-/
module

public import proofs.«01_k».proof.Proof.Spec

@[expose] public section

noncomputable section

namespace Cert.Softmax

open Idealize.ShloMosaic
open Cert.Numbers Cert.Spec

/-- A number that is neither of the two infinities. -/
def IsReal (a : EReal) : Prop := ∃ r : ℝ, a = (r : EReal)

/-- A sum of two real numbers is real. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- A product of two real numbers is real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A finite sum of real numbers is real. -/
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- A number whose absolute value is below infinity is real. -/
theorem IsReal.of_abs {a : EReal} (h : max a (-a) < ⊤) : IsReal a := by
  induction a using EReal.rec with
  | bot => simp at h
  | top => simp at h
  | coe r => exact ⟨r, rfl⟩

/-- The bin head of real arguments is real. -/
theorem logit_isReal (x : Fin 1024 → Fin 1024 → EReal) (w : FVec Ideal ⟨2, ![1024, 2048]⟩ .f32)
    (b : FVec Ideal ⟨1, ![2048]⟩ .f32) (hx : ∀ r k, IsReal (x r k)) (hw : ∀ i, IsReal (w i)) (hb : ∀ i, IsReal (b i))
    (r : Fin 1024) (j : Fin 2048) : IsReal (logit x w b r j) :=
  (IsReal.sum _ _ fun k => (hx r k).mul (hw _)).add (hb _)

/-- The temperature, the literal nearest to 0.1. -/
theorem word_temperature : Ideal.ofBits .f32 1036831949#32 = ((13421773 / 2 ^ 27 : ℝ) : EReal) := by
  simp [Ideal.ofBits, Ideal.ieee]
  norm_num
  rw [← EReal.coe_mul]
  norm_num

/-- The greatest value of a row, as the fold of `max`, is the value at the first place of the greatest value. -/
theorem fold_max_eq (t : Fin 1024 → EReal) : Finset.fold max (⊥ : EReal) t Finset.univ = t (firstMax t) := by
  apply le_antisymm
  · exact (Finset.fold_max_le _).mpr ⟨bot_le, fun j _ => le_firstMax t j⟩
  · exact (Finset.le_fold_max _).mpr (Or.inr ⟨firstMax t, Finset.mem_univ _, le_rfl⟩)

/-- The reference's softmax of a row, from the greatest value of the row. -/
def softmax (l : Fin 1024 → EReal) (c : Fin 1024) : EReal :=
  Ideal.div
    (Ideal.exp (Ideal.div (l c) (Ideal.ofBits .f32 1036831949#32)
      - max (Ideal.ofBits .f32 4286578688#32) (Finset.fold max (Ideal.ofBits .f32 4286578688#32)
          (fun k => Ideal.div (l k) (Ideal.ofBits .f32 1036831949#32)) Finset.univ)))
    (∑ k, Ideal.exp (Ideal.div (l k) (Ideal.ofBits .f32 1036831949#32)
      - max (Ideal.ofBits .f32 4286578688#32) (Finset.fold max (Ideal.ofBits .f32 4286578688#32)
          (fun k => Ideal.div (l k) (Ideal.ofBits .f32 1036831949#32)) Finset.univ)))

/-- A sum of real numbers is the same among the extended reals. -/
theorem sum_coe (f : Fin 1024 → ℝ) : ∑ k, ((f k : ℝ) : EReal) = ((∑ k, f k : ℝ) : EReal) := by
  classical
  induction (Finset.univ : Finset (Fin 1024)) using Finset.induction_on with
  | empty => simp
  | insert a s ha ih => rw [Finset.sum_insert ha, Finset.sum_insert ha, ih, EReal.coe_add]

/-- The first greatest value of a real row and of its softmax are at the same place. -/
theorem firstMax_softmax (l : Fin 1024 → EReal) (hl : ∀ c, IsReal (l c)) : firstMax (softmax l) = firstMax l := by
  choose f hf using hl
  obtain rfl : l = fun c => (f c : EReal) := funext hf
  have hK : (13421773 / 2 ^ 27 : ℝ) ≠ 0 := by norm_num
  have ht : ∀ c, Ideal.div (f c : EReal) (Ideal.ofBits .f32 1036831949#32)
      = ((f c * (1 / (13421773 / 2 ^ 27)) : ℝ) : EReal) := fun c => by
    rw [word_temperature, Ideal.div_coe hK, EReal.coe_mul]
  obtain ⟨m, hm⟩ : ∃ m : ℝ, max (Ideal.ofBits .f32 4286578688#32) (Finset.fold max (Ideal.ofBits .f32 4286578688#32)
      (fun k => Ideal.div (f k : EReal) (Ideal.ofBits .f32 1036831949#32)) Finset.univ) = (m : EReal) := by
    rw [word_bot, max_eq_right bot_le, fold_max_eq]
    exact ⟨_, ht _⟩
  have he : ∀ c, Ideal.exp (Ideal.div (f c : EReal) (Ideal.ofBits .f32 1036831949#32) - (m : EReal))
      = ((Real.exp (f c * (1 / (13421773 / 2 ^ 27)) - m) : ℝ) : EReal) := fun c => by
    rw [ht, ← EReal.coe_sub, Ideal.exp_coe]
  have hS : 0 < ∑ k : Fin 1024, Real.exp (f k * (1 / (13421773 / 2 ^ 27)) - m) :=
    Finset.sum_pos (fun k _ => Real.exp_pos _) ⟨0, Finset.mem_univ _⟩
  have hp : ∀ c, softmax (fun c => (f c : EReal)) c = ((Real.exp (f c * (1 / (13421773 / 2 ^ 27)) - m)
      * (1 / ∑ k : Fin 1024, Real.exp (f k * (1 / (13421773 / 2 ^ 27)) - m)) : ℝ) : EReal) := fun c => by
    unfold softmax
    simp only [hm, he]
    rw [sum_coe, Ideal.div_coe hS.ne', EReal.coe_mul]
  refine firstMax_congr _ _ fun i j => ?_
  rw [hp, hp, EReal.coe_le_coe_iff, EReal.coe_le_coe_iff, mul_le_mul_iff_left₀ (one_div_pos.mpr hS), Real.exp_le_exp,
    sub_le_sub_iff_right, mul_le_mul_iff_left₀ (by norm_num)]

end Cert.Softmax
-- ==== Proof.RefValue.lean ====
/-
  What the reference's four stretches compute, each read at an index: the bin head and its arg-max, the sampled offsets,
  the sampled codebook rows and the decoder. The gathers read inside their operands, for a sampled bin is below 1024; the
  test that the reference makes of this is true.
-/
module

public import proofs.«01_k».proof.Proof.RefRun
public import proofs.«01_k».proof.Proof.Softmax
public import Idealize.ShloMosaic.Lib.Pointwise

@[expose] public section

set_option maxRecDepth 16384

noncomputable section

namespace Cert.Reference

open Idealize.ShloMosaic Idealize.SL.Sem
open Cert.ReferenceIdeal Cert.ReferenceIdeal.Facts₀ Cert.ReferenceIdeal.Facts
open Cert.Numbers Cert.Spec Cert.Softmax

variable [Cert.ReferenceIdeal.Facts] (V : Valuation τ sig (Elt Ideal))

/-! ## A sampled bin as a word -/

/-- A word below 1024 is not negative: the reference's correction of a negative index leaves it. -/
theorem select_bin (c : Fin 1024) (n : BitVec 32) :
    Scalar.select (IntOp.cmpi .slt (BitVec.ofNat 32 c.val) 0#32) (IntOp.addi (BitVec.ofNat 32 c.val) n) (BitVec.ofNat 32 c.val)
      = BitVec.ofNat 32 c.val := by
  have h : (BitVec.ofNat 32 c.val).slt 0#32 = false := by
    rw [BitVec.slt, number_of_word _ (by have := c.isLt; omega)]
    simp
  simp only [IntOp.cmpi, h]
  rfl

/-- Likewise the number of a group. -/
theorem select_group (g : Fin 2) :
    min (BitVec.toInt (Scalar.select (IntOp.cmpi .slt (BitVec.ofNat 32 g.val) 0#32)
      (IntOp.addi (BitVec.ofNat 32 g.val) 2#32) (BitVec.ofNat 32 g.val))).toNat 1 = g.val := by
  revert g
  decide

/-- A bin passes the test that an index is not negative. -/
theorem bin_ge (c : Fin 1024) : IntOp.cmpi .sge (BitVec.ofNat 32 c.val) 0#32 = 1#1 := by
  have h : (0#32).sle (BitVec.ofNat 32 c.val) = true := by
    rw [BitVec.sle, number_of_word _ (by have := c.isLt; omega)]
    simp [number_of_word _ (show c.val < 2 ^ 31 by have := c.isLt; omega)]
  simp only [IntOp.cmpi, h]
  rfl

/-- A bin passes the test that an index is at most 1023. -/
theorem bin_le (c : Fin 1024) : IntOp.cmpi .sle (BitVec.ofNat 32 c.val) 1023#32 = 1#1 := by
  have h : (BitVec.ofNat 32 c.val).sle 1023#32 = true := by
    rw [BitVec.sle, number_of_word _ (by have := c.isLt; omega), show (1023#32).toInt = 1023 from by decide]
    have := c.isLt
    simp
    omega
  simp only [IntOp.cmpi, h]
  rfl

/-- Clipping a bin to 1023 leaves it as it is. -/
theorem bin_number (c : Fin 1024) : min (BitVec.ofNat 32 c.val).toInt.toNat 1023 = c.val := by
  rw [number_of_word _ (by have := c.isLt; omega)]
  have := c.isLt
  omega

/-! ## The two gathers -/

/-- The gather of `take_along_axis`: the operand at the bin that the index array holds, cut off at 1023. -/
theorem gather_bin (x : FVec Ideal S1024x2x1024x35 .f32) (idx : IVec S1024x2x1x1 32) (r : Fin 1024) (g : Fin 2) (o : Fin 35) :
    Host.gather gather_S1024x2x1024x35_S1024x2x1x1_S1024x2x1x35_3_2_01_01_2_3_11135 x idx (ix4 r g (0 : Fin 1) o)
      = x (ix4 r g ⟨min (idx (ix4 r g (0 : Fin 1) (0 : Fin 1))).toInt.toNat 1023, by omega⟩ o) := by
  unfold Host.gather
  congr 1
  funext a
  refine Fin.ext ?_
  match a with
  | ⟨0, _⟩ =>
    show GatherDims.start _ _ idx _ + r.val + GatherDims.offCoord _ _ _ = r.val
    rw [GatherDims.start_batching _ _ _ _ (show (0 : Fin 4) ∈ ([0, 1] : List (Fin 4)) from by decide),
      GatherDims.offCoord_eq_zero _ _ _ (show (0 : Fin 4) ∉ Shape.kept S1024x2x1024x35 ([2] ++ [0, 1]) from by decide)]
    omega
  | ⟨1, _⟩ =>
    show GatherDims.start _ _ idx _ + g.val + GatherDims.offCoord _ _ _ = g.val
    rw [GatherDims.start_batching _ _ _ _ (show (1 : Fin 4) ∈ ([0, 1] : List (Fin 4)) from by decide),
      GatherDims.offCoord_eq_zero _ _ _ (show (1 : Fin 4) ∉ Shape.kept S1024x2x1024x35 ([2] ++ [0, 1]) from by decide)]
    omega
  | ⟨2, _⟩ =>
    refine congrArg (fun i => min (idx i).toInt.toNat 1023) (funext fun b => Fin.ext ?_)
    match b with
    | ⟨0, _⟩ => rfl
    | ⟨1, _⟩ => rfl
    | ⟨2, _⟩ => rfl
    | ⟨3, _⟩ => rfl
  | ⟨3, _⟩ =>
    show GatherDims.start _ _ idx _ + GatherDims.batchCoord _ _ _ + o.val = o.val
    rw [GatherDims.batchCoord_eq_zero _ _ _ (show (3 : Fin 4) ∉ ([0, 1] : List (Fin 4)) from by decide)]
    show 0 + 0 + o.val = o.val
    omega

/-- The same where the index array holds a bin. -/
theorem gather_at_bin (x : FVec Ideal S1024x2x1024x35 .f32) (idx : IVec S1024x2x1x1 32) (r : Fin 1024) (g : Fin 2) (o : Fin 35)
    (c : Fin 1024) (h : idx (ix4 r g (0 : Fin 1) (0 : Fin 1)) = BitVec.ofNat 32 c.val) :
    Host.gather gather_S1024x2x1024x35_S1024x2x1x1_S1024x2x1x35_3_2_01_01_2_3_11135 x idx (ix4 r g (0 : Fin 1) o)
      = x (ix4 r g c o) := by
  rw [gather_bin]
  have e : (⟨min (idx (ix4 r g (0 : Fin 1) (0 : Fin 1))).toInt.toNat 1023, by omega⟩ : Fin 1024) = c :=
    Fin.ext (show min (idx _).toInt.toNat 1023 = c.val from by rw [h]; exact bin_number c)
  rw [e]

/-- The gather of the codebooks: the row that the index array's two components hold, each cut off at its axis. -/
theorem gather_row (x : FVec Ideal S2x1024x256 .f32) (idx : IVec S1024x2x2 32) (r : Fin 1024) (g : Fin 2) (d : Fin 256) :
    Host.gather gather_S2x1024x256_S1024x2x2_S1024x2x256_2_01_n_n_01_2_11256 x idx (ix3 r g d)
      = x (ix3 ⟨min (idx (ix3 r g (0 : Fin 2))).toInt.toNat 1, by omega⟩
          ⟨min (idx (ix3 r g (1 : Fin 2))).toInt.toNat 1023, by omega⟩ d) := by
  unfold Host.gather
  congr 1
  funext a
  refine Fin.ext ?_
  match a with
  | ⟨0, _⟩ =>
    refine congrArg (fun i => min (idx i).toInt.toNat 1) (funext fun b => Fin.ext ?_)
    match b with
    | ⟨0, _⟩ => rfl
    | ⟨1, _⟩ => rfl
    | ⟨2, _⟩ => rfl
  | ⟨1, _⟩ =>
    refine congrArg (fun i => min (idx i).toInt.toNat 1023) (funext fun b => Fin.ext ?_)
    match b with
    | ⟨0, _⟩ => rfl
    | ⟨1, _⟩ => rfl
    | ⟨2, _⟩ => rfl
  | ⟨2, _⟩ =>
    show GatherDims.start _ _ idx _ + GatherDims.batchCoord _ _ _ + d.val = d.val
    rw [GatherDims.batchCoord_eq_zero _ _ _ List.not_mem_nil]
    show 0 + 0 + d.val = d.val
    omega

/-! ## The decoder -/

/-- The decoder's result at row `r` and entry `(w, a)` of the window. -/
theorem decoded_at (r : Fin 1024) (w : Fin 5) (a : Fin 7) :
    (StableHlo.after decodeOps V (Proc.devRef .tc main_v61) : FVec Ideal S1024x5x7 .f32) (ix3 r w a)
      = decode (fun d => (V (Proc.devRef .tc main_v46) : FVec Ideal S1024x256 .f32) (ix2 r d))
        (V (Proc.devRef .tc main_arg6)) (V (Proc.devRef .tc main_arg7)) (V (Proc.devRef .tc main_arg8))
        (V (Proc.devRef .tc main_arg9)) (V (Proc.devRef .tc main_arg10)) (V (Proc.devRef .tc main_arg11))
        ⟨w.val * 7 + a.val, by omega⟩ := by
  after_results
  simp -implicitDefEqProofs only [StableHlo.TRef.ofBuf_toBuf]
  simp -implicitDefEqProofs only [StableHlo.TRef.ofBuf, StableHlo.TRef.toBuf, cast_eq]
  pointwise
  rfl

/-- The sum of the decoder's result and the sampled offsets, at token `(n, t)`. -/
theorem predicted_at (n : Fin 64) (t : Fin 16) (o : Fin 35) :
    (StableHlo.after decodeOps V (Proc.devRef .tc main_v64) : FVec Ideal S64x16x35 .f32) (ix3 n t o)
      = decode (fun d => (V (Proc.devRef .tc main_v46) : FVec Ideal S1024x256 .f32)
          (ix2 (⟨n.val * 16 + t.val, by omega⟩ : Fin 1024) d))
        (V (Proc.devRef .tc main_arg6)) (V (Proc.devRef .tc main_arg7)) (V (Proc.devRef .tc main_arg8))
        (V (Proc.devRef .tc main_arg9)) (V (Proc.devRef .tc main_arg10)) (V (Proc.devRef .tc main_arg11)) o
        + (V (Proc.devRef .tc main_v28) : FVec Ideal S1024x35 .f32) (ix2 (⟨n.val * 16 + t.val, by omega⟩ : Fin 1024) o) := by
  after_results
  simp -implicitDefEqProofs only [StableHlo.TRef.ofBuf_toBuf]
  simp -implicitDefEqProofs only [StableHlo.TRef.ofBuf, StableHlo.TRef.toBuf, cast_eq]
  pointwise
  have e : (⟨o.val / 7 * 7 + o.val % 7, by omega⟩ : Fin 35) = o := Fin.ext (by show o.val / 7 * 7 + o.val % 7 = o.val; omega)
  simp only [e]
  rfl

/-! ## The sampled codebook rows -/

/-- Where the sampled bins are `c`, the codebook rows gathered and added are those of `c`. -/
theorem embed_at (c : Fin 1024 → Fin 2 → Fin 1024)
    (hc : ∀ r g, (V (Proc.devRef .tc main_v19) : IVec S1024x2 32) (ix2 r g) = BitVec.ofNat 32 (c r g).val)
    (r : Fin 1024) (d : Fin 256) :
    (StableHlo.after embedOps V (Proc.devRef .tc main_v46) : FVec Ideal S1024x256 .f32) (ix2 r d)
      = embed (V (Proc.devRef .tc main_arg5)) (c r) d := by
  after_results
  pointwise
  simp only [gather_row]
  pointwise
  simp only [hc, select_bin, bin_number, select_group]
  rfl

/-! ## The sampled offsets -/

/-- Where the sampled bins are `c`, the offsets gathered and added are those of `c`. -/
theorem offsets_at (c : Fin 1024 → Fin 2 → Fin 1024)
    (hc : ∀ r g, (V (Proc.devRef .tc main_v19) : IVec S1024x2 32) (ix2 r g) = BitVec.ofNat 32 (c r g).val)
    (r : Fin 1024) (o : Fin 35) :
    (StableHlo.after offsetOps V (Proc.devRef .tc main_v28) : FVec Ideal S1024x35 .f32) (ix2 r o)
      = offsets (fun r k => (V (Proc.devRef .tc main_v0) : FVec Ideal S1024x1024 .f32) (ix2 r k))
          (V (Proc.devRef .tc main_arg3)) (V (Proc.devRef .tc main_arg4)) (c r) r o := by
  after_results
  simp -implicitDefEqProofs only [StableHlo.TRef.ofBuf_toBuf]
  simp -implicitDefEqProofs only [StableHlo.TRef.ofBuf, StableHlo.TRef.toBuf, cast_eq]
  pointwise
  show @Eq EReal _ _
  refine Finset.sum_congr rfl fun g _ => ?_
  rw [gather_at_bin _ _ r g o (c r g) (by pointwise; simp only [hc, select_bin])]
  simp only [hc, select_bin, bin_ge, bin_le]
  have e : Finset.fold IntOp.andi (1#1) (fun _ : Fin 1 => IntOp.andi 1#1 1#1) Finset.univ = 1#1 := by decide
  have ec : (⟨g.val * 35840 + (c r g).val * 35 + o.val, by omega⟩ : Fin 71680) = offCol g (c r g) o :=
    Fin.ext (show g.val * 35840 + (c r g).val * 35 + o.val = (g.val * 1024 + (c r g).val) * 35 + o.val from by omega)
  rw [← ec]
  exact congrArg (fun b => Scalar.select b _ _) e

/-! ## The bin head and its arg-max -/

/-- One step of the reference's arg-max keeps the pair of the greater value, and of two equal values the pair of the
    smaller index. -/
theorem reducer_eq (a b : EReal × BitVec 32) (ha : a.2.toNat < 2 ^ 31) (hb : b.2.toNat < 2 ^ 31) :
    reducer_argmax_f32_i32 (F := Ideal) a b = if b.1 < a.1 ∨ (a.1 = b.1 ∧ a.2.toNat < b.2.toNat) then a else b := by
  obtain ⟨x, i⟩ := a
  obtain ⟨y, j⟩ := b
  have ha : i.toNat < 2 ^ 31 := ha
  have hb : j.toNat < 2 ^ 31 := hb
  have hs : i.slt j = decide (i.toNat < j.toNat) := by
    rw [BitVec.slt_eq_decide, BitVec.toInt_eq_toNat_of_lt (by omega), BitVec.toInt_eq_toNat_of_lt (by omega)]
    simp
  by_cases h1 : y < x <;> by_cases h2 : x = y <;> by_cases h3 : i.toNat < j.toNat <;>
    simp [reducer_argmax_f32_i32, Ideal.cmpf_def, Ideal.cmp, Scalar.select, IntOp.ori, IntOp.andi, IntOp.cmpi, hs, h1, h2, h3]

/-- One step of the reference's arg-max keeps one of its two pairs, the one by which both are beaten. -/
theorem reducer_step (a b : EReal × BitVec 32) (ha : a.2.toNat < 2 ^ 31) (hb : b.2.toNat < 2 ^ 31) :
    (reducer_argmax_f32_i32 (F := Ideal) a b = a ∨ reducer_argmax_f32_i32 (F := Ideal) a b = b)
      ∧ Beaten a (reducer_argmax_f32_i32 (F := Ideal) a b) ∧ Beaten b (reducer_argmax_f32_i32 (F := Ideal) a b) := by
  rw [reducer_eq a b ha hb]
  split
  · rename_i h
    refine ⟨Or.inl rfl, Beaten.refl a, ?_⟩
    rcases h with h | ⟨h, h'⟩
    · exact Or.inl h
    · exact Or.inr ⟨h.symm, h'.le⟩
  · rename_i h
    rw [not_or, not_lt, not_and, not_lt] at h
    refine ⟨Or.inr rfl, ?_, Beaten.refl b⟩
    rcases h.1.lt_or_eq with h' | h'
    · exact Or.inl h'
    · exact Or.inr ⟨h', h.2 h'⟩

/-- The reference's arg-max over the last axis is the first place of the greatest value. -/
theorem argmax_at (p : FVec Ideal S1024x2x1024 .f32) (u : FVec Ideal S_ .f32) (v : IVec S_ 32) (hu : ∀ i, u i = (⊥ : EReal))
    (hv : ∀ i, v i = 0#32) (r : Fin 1024) (g : Fin 2) :
    (Host.argReduce reducer_argmax_f32_i32 p (iotaInDim S1024x2x1024 32 2) u v reducesTo_S1024x2x1024_S1024x2_d2 h_S_
      (ix2 r g)).2 = BitVec.ofNat 32 (firstMax fun c => p (ix3 r g c)).val := by
  rw [Ideal.argReduce_eq_reduce2, Host.reduce2_eq_foldl_fiber, hu, hv]
  have hmem : ∀ q, q ∈ Host.argReduceFiber p (iotaInDim S1024x2x1024 32 2) reducesTo_S1024x2x1024_S1024x2_d2 (ix2 r g)
      ↔ ∃ c : Fin 1024, q = (p (ix3 r g c), BitVec.ofNat 32 c.val) := by
    intro q
    simp only [Host.argReduceFiber, List.mem_map, List.mem_filter, List.mem_finRange, true_and, decide_eq_true_eq]
    constructor
    · rintro ⟨n, hn, rfl⟩
      generalize S1024x2x1024.rowMajor.symm n = i at hn ⊢
      have h0 : (i 0).val = r.val := congrArg Fin.val (congrFun hn 0)
      have h1 : (i 1).val = g.val := congrArg Fin.val (congrFun hn 1)
      have hi : i = ix3 r g (i 2) := by
        funext a
        match a with
        | ⟨0, _⟩ => exact Fin.ext h0
        | ⟨1, _⟩ => exact Fin.ext h1
        | ⟨2, _⟩ => rfl
      refine ⟨i 2, ?_⟩
      rw [hi]
      rfl
    · rintro ⟨c, rfl⟩
      refine ⟨S1024x2x1024.rowMajor (ix3 r g c), ?_, ?_⟩
      · rw [Equiv.symm_apply_apply]
        funext a
        match a with
        | ⟨0, _⟩ => rfl
        | ⟨1, _⟩ => rfl
      · rw [Equiv.symm_apply_apply]
        rfl
  obtain ⟨h1, h2, h3⟩ := foldl_beaten (reducer_argmax_f32_i32 (F := Ideal)) (fun q => q.2.toNat < 2 ^ 31) reducer_step _ (by
    intro q hq
    obtain ⟨c, rfl⟩ := (hmem q).mp hq
    show (BitVec.ofNat 32 c.val).toNat < 2 ^ 31
    rw [BitVec.toNat_ofNat]
    have := c.isLt
    omega) ((⊥ : EReal), 0#32) (by decide)
  generalize List.foldl _ _ _ = q at h1 h2 h3 ⊢
  have hb : ∀ c : Fin 1024, Beaten (p (ix3 r g c), BitVec.ofNat 32 c.val) q := fun c => h3 _ ((hmem _).mpr ⟨c, rfl⟩)
  obtain ⟨m, h2m, h1m⟩ : ∃ m : Fin 1024, q.2 = BitVec.ofNat 32 m.val ∧ q.1 = p (ix3 r g m) := by
    rcases h1 with e | e
    · refine ⟨0, by rw [e]; rfl, ?_⟩
      have h0 : Beaten (p (ix3 r g 0), 0#32) ((⊥ : EReal), 0#32) := e ▸ hb 0
      rw [e]
      rcases h0 with h | h
      · exact absurd h not_lt_bot
      · exact h.1.symm
    · obtain ⟨m, rfl⟩ := (hmem _).mp e
      exact ⟨m, rfl, rfl⟩
  have hw : ∀ c : Fin 1024, (BitVec.ofNat 32 c.val).toNat = c.val := fun c => by
    rw [BitVec.toNat_ofNat]
    have := c.isLt
    omega
  rw [h2m, firstMax_eq _ m fun k => ?_]
  rcases hb k with h | ⟨h, h'⟩
  · exact Or.inl (lt_of_lt_of_eq h h1m)
  · refine Or.inr ⟨Eq.trans h h1m, ?_⟩
    rw [h2m] at h'
    exact Fin.le_def.mpr (by simpa only [hw] using h')

/-- The activations as rows. -/
theorem rows_at (r k : Fin 1024) :
    (StableHlo.after headOps V (Proc.devRef .tc main_v0) : FVec Ideal S1024x1024 .f32) (ix2 r k)
      = rows (V (Proc.devRef .tc main_arg0)) r k := by
  after_results
  pointwise
  rfl

/-- The bin head. -/
theorem logits_at (r : Fin 1024) (g : Fin 2) (c : Fin 1024) :
    (StableHlo.after headOps V (Proc.devRef .tc main_v5) : FVec Ideal S1024x2x1024 .f32) (ix3 r g c)
      = logit (rows (V (Proc.devRef .tc main_arg0))) (V (Proc.devRef .tc main_arg1)) (V (Proc.devRef .tc main_arg2)) r (col g c) := by
  after_results
  pointwise
  rfl

/-! ## The softmax, step by step -/

/-- A logit over the temperature. -/
theorem temper_at (l : FVec Ideal S1024x2x1024 .f32) (r : Fin 1024) (g : Fin 2) (c : Fin 1024) :
    Host.divf l (broadcastInDim S1024x2x1024 ![] bcast_S_S1024x2x1024 (constant S_ .f32 0x3DCCCCCD#32)) (ix3 r g c)
      = Ideal.div (l (ix3 r g c)) (Ideal.ofBits .f32 1036831949#32) := by
  pointwise

/-- The greatest value of a row. -/
theorem rowmax_at (t : FVec Ideal S1024x2x1024 .f32) (r : Fin 1024) (g : Fin 2) :
    Host.reduce FloatOps.maximumf t (constant S_ .f32 0xFF800000#32) reducesTo_S1024x2x1024_S1024x2_d2 h_S_ (ix2 r g)
      = Finset.fold max (Ideal.ofBits .f32 4286578688#32) (fun k => t (ix3 r g k)) Finset.univ := by
  pointwise

/-- The row's greatest value, against negative infinity. -/
theorem max_at (v : FVec Ideal S1024x2 .f32) (r : Fin 1024) (g : Fin 2) :
    maximumf (broadcastInDim S1024x2 ![] bcast_S_S1024x2 (constant S_ .f32 0xFF800000#32)) v (ix2 r g)
      = max (Ideal.ofBits .f32 4286578688#32) (v (ix2 r g)) := by
  pointwise

/-- The exponential of an entry less its row's greatest value. -/
theorem exp_at (t : FVec Ideal S1024x2x1024 .f32) (v : FVec Ideal S1024x2 .f32) (r : Fin 1024) (g : Fin 2) (c : Fin 1024) :
    Host.exp (subf t (broadcastInDim S1024x2x1024 ![0, 1, 2] bcast_S1024x2x1_S1024x2x1024_0_1_2
      (broadcastInDim S1024x2x1 ![0, 1] bcast_S1024x2_S1024x2x1_0_1 v))) (ix3 r g c)
      = Ideal.exp (t (ix3 r g c) - v (ix2 r g)) := by
  pointwise

/-- The sum of a row. -/
theorem rowsum_at (t : FVec Ideal S1024x2x1024 .f32) (r : Fin 1024) (g : Fin 2) :
    Host.reduceAdd t (constant S_ .f32 0x00000000#32) reducesTo_S1024x2x1024_S1024x2_d2 h_S_ (ix2 r g)
      = ∑ k, t (ix3 r g k) := by
  pointwise

/-- An entry over its row's sum. -/
theorem quotient_at (t : FVec Ideal S1024x2x1024 .f32) (v : FVec Ideal S1024x2 .f32) (r : Fin 1024) (g : Fin 2) (c : Fin 1024) :
    Host.divf t (broadcastInDim S1024x2x1024 ![0, 1, 2] bcast_S1024x2x1_S1024x2x1024_0_1_2
      (broadcastInDim S1024x2x1 ![0, 1] bcast_S1024x2_S1024x2x1_0_1 v)) (ix3 r g c)
      = Ideal.div (t (ix3 r g c)) (v (ix2 r g)) := by
  pointwise

/-- The bin head as the reference writes it, read at an index. -/
theorem head_at (x : FVec Ideal S64x16x1024 .f32) (w : FVec Ideal S1024x2048 .f32) (b : FVec Ideal S2048 .f32)
    (r : Fin 1024) (g : Fin 2) (c : Fin 1024) :
    shapeCast S1024x2x1024 (addf (Host.dotGeneral dot_S1024x1024_S1024x2048_S1024x2048_1_0_0_1_n_n none
        (shapeCast S1024x1024 x shapeCasts_S64x16x1024_S1024x1024) w)
      (broadcastInDim S1024x2048 ![0, 1] bcast_S1x2048_S1024x2048_0_1 (broadcastInDim S1x2048 ![1] bcast_S2048_S1x2048_1 b)))
      shapeCasts_S1024x2048_S1024x2x1024 (ix3 r g c) = logit (rows x) w b r (col g c) := by
  pointwise
  rfl

/-- The softmax as the reference writes it, read at an index: of the row of logits that the index is in. -/
theorem softmax_at (l : FVec Ideal S1024x2x1024 .f32) (r : Fin 1024) (g : Fin 2) (c : Fin 1024) :
    let t := Host.divf l (broadcastInDim S1024x2x1024 ![] bcast_S_S1024x2x1024 (constant S_ .f32 0x3DCCCCCD#32))
    let e := Host.exp (subf t (broadcastInDim S1024x2x1024 ![0, 1, 2] bcast_S1024x2x1_S1024x2x1024_0_1_2
       (broadcastInDim S1024x2x1 ![0, 1] bcast_S1024x2_S1024x2x1_0_1
         (maximumf (broadcastInDim S1024x2 ![] bcast_S_S1024x2 (constant S_ .f32 0xFF800000#32))
           (Host.reduce FloatOps.maximumf t (constant S_ .f32 0xFF800000#32) reducesTo_S1024x2x1024_S1024x2_d2 h_S_)))))
    Host.divf e (broadcastInDim S1024x2x1024 ![0, 1, 2] bcast_S1024x2x1_S1024x2x1024_0_1_2
       (broadcastInDim S1024x2x1 ![0, 1] bcast_S1024x2_S1024x2x1_0_1
         (Host.reduceAdd e (constant S_ .f32 0x00000000#32) reducesTo_S1024x2x1024_S1024x2_d2 h_S_))) (ix3 r g c)
      = softmax (fun k => l (ix3 r g k)) c := by
  intro t e
  have hM := (max_at (Host.reduce FloatOps.maximumf t (constant S_ .f32 0xFF800000#32)
      reducesTo_S1024x2x1024_S1024x2_d2 h_S_) r g).trans (congrArg (max _) ((rowmax_at t r g).trans
        (congrArg (fun f => Finset.fold max (Ideal.ofBits .f32 4286578688#32) f Finset.univ)
          (funext fun k => temper_at l r g k))))
  have he : ∀ k, e (ix3 r g k) = _ := fun k =>
    (exp_at t _ r g k).trans (congrArg₂ (fun a b => Ideal.exp (a - b)) (temper_at l r g k) hM)
  exact (quotient_at e _ r g c).trans (congrArg₂ Ideal.div (he c) ((rowsum_at e r g).trans
    (Finset.sum_congr rfl fun k _ => he k)))

/-- The sampled bin, as a word: the first of the greatest probability. -/
theorem center_at (r : Fin 1024) (g : Fin 2) :
    (StableHlo.after headOps V (Proc.devRef .tc main_v19) : IVec S1024x2 32) (ix2 r g)
      = BitVec.ofNat 32 (firstMax (softmax fun c => logit (rows (V (Proc.devRef .tc main_arg0)))
          (V (Proc.devRef .tc main_arg1)) (V (Proc.devRef .tc main_arg2)) r (col g c))).val := by
  after_results
  simp -implicitDefEqProofs only [StableHlo.TRef.ofBuf_toBuf]
  simp -implicitDefEqProofs only [StableHlo.TRef.ofBuf, StableHlo.TRef.toBuf, cast_eq]
  refine (argmax_at _ _ _ (fun _ => word_bot) (fun _ => rfl) r g).trans
    (congrArg (fun f => BitVec.ofNat 32 (firstMax f).val) (funext fun c => ?_))
  exact (softmax_at _ r g c).trans (congrArg (fun f => softmax f c) (funext fun k => head_at _ _ _ r g k))

end Cert.Reference
-- ==== Proof.RefResult.lean ====
module

public import proofs.«01_k».proof.Proof.RefValue

/-!
The reference's four results, from its arguments, where the entries that the bin head reads are real numbers: the
softmax then keeps the order of the logits, and its first greatest entry is that of the logits.
-/

@[expose] public section

set_option maxRecDepth 16384

noncomputable section

namespace Cert.Reference

open Idealize.ShloMosaic Idealize.SL.Sem
open Cert.ReferenceIdeal Cert.ReferenceIdeal.Facts₀ Cert.ReferenceIdeal.Facts
open Cert.Numbers Cert.Spec Cert.Softmax

variable [Cert.ReferenceIdeal.Facts] (V : Valuation τ sig (Elt Ideal))

/-- The bin head of the arguments. -/
abbrev headAt (r : Fin 1024) (j : Fin 2048) : EReal :=
  logit (rows (V (Proc.devRef .tc main_arg0))) (V (Proc.devRef .tc main_arg1)) (V (Proc.devRef .tc main_arg2)) r j

/-- The bin sampled for a group at a row. -/
abbrev binAt (r : Fin 1024) (g : Fin 2) : Fin 1024 :=
  center (rows (V (Proc.devRef .tc main_arg0))) (V (Proc.devRef .tc main_arg1)) (V (Proc.devRef .tc main_arg2)) r g

/-- What the head's stretch does not write is as before it. -/
theorem afterHead_of (b : Ref sig .tc) (h : b ∉ headOpsW) : afterHead V (Proc.devRef .tc b) = V (Proc.devRef .tc b) :=
  StableHlo.after_of_writes_sub _ _ headOps_writes h

/-- What the offsets' stretch does not write is as before it. -/
theorem afterOffset_of (b : Ref sig .tc) (h : b ∉ offsetOpsW) : afterOffset V (Proc.devRef .tc b) = afterHead V (Proc.devRef .tc b) :=
  StableHlo.after_of_writes_sub _ _ offsetOps_writes h

/-- What the codebooks' stretch does not write is as before it. -/
theorem afterEmbed_of (b : Ref sig .tc) (h : b ∉ embedOpsW) : afterEmbed V (Proc.devRef .tc b) = afterOffset V (Proc.devRef .tc b) :=
  StableHlo.after_of_writes_sub _ _ embedOps_writes h

/-- What the decoder's stretch does not write is as before it. -/
theorem afterDecode_of_embed (b : Ref sig .tc) (h : b ∉ decodeOpsW) : afterDecode V (Proc.devRef .tc b) = afterEmbed V (Proc.devRef .tc b) :=
  StableHlo.after_of_writes_sub _ _ decodeOps_writes h

/-- An argument before the decoder's stretch. -/
theorem afterEmbed_arg (b : Ref sig .tc) (h : b ∉ headOpsW ∧ b ∉ offsetOpsW ∧ b ∉ embedOpsW) :
    afterEmbed V (Proc.devRef .tc b) = V (Proc.devRef .tc b) :=
  (afterEmbed_of V b h.2.2).trans ((afterOffset_of V b h.2.1).trans (afterHead_of V b h.1))

/-- The first result: the logits. -/
theorem result_logits (r : Fin 1024) (g : Fin 2) (c : Fin 1024) :
    (afterDecode V (Proc.devRef .tc main_v5) : FVec Ideal S1024x2x1024 .f32) (ix3 r g c) = headAt V r (col g c) := by
  have h : afterDecode V (Proc.devRef .tc main_v5) = afterHead V (Proc.devRef .tc main_v5) :=
    (afterDecode_of_embed V main_v5 (by decide)).trans ((afterEmbed_of V main_v5 (by decide)).trans (afterOffset_of V main_v5 (by decide)))
  exact (congrFun h _).trans (logits_at V r g c)

variable (hl : ∀ r j, IsReal (headAt V r j))

include hl

/-- The bins after the head's stretch. -/
theorem bins_head (r : Fin 1024) (g : Fin 2) :
    (afterHead V (Proc.devRef .tc main_v19) : IVec S1024x2 32) (ix2 r g) = BitVec.ofNat 32 (binAt V r g).val :=
  (center_at V r g).trans (congrArg (fun k : Fin 1024 => BitVec.ofNat 32 k.val) (firstMax_softmax _ fun c => hl r (col g c)))

/-- The third result: the sampled bins. -/
theorem result_bins (r : Fin 1024) (g : Fin 2) :
    (afterDecode V (Proc.devRef .tc main_v19) : IVec S1024x2 32) (ix2 r g) = BitVec.ofNat 32 (binAt V r g).val := by
  have h : afterDecode V (Proc.devRef .tc main_v19) = afterHead V (Proc.devRef .tc main_v19) :=
    (afterDecode_of_embed V main_v19 (by decide)).trans ((afterEmbed_of V main_v19 (by decide)).trans (afterOffset_of V main_v19 (by decide)))
  exact (congrFun h _).trans (bins_head V hl r g)

/-- The selected offsets, with their biases, before the decoder's stretch. -/
theorem offsets_embed (r : Fin 1024) (o : Fin 35) :
    (afterEmbed V (Proc.devRef .tc main_v28) : FVec Ideal S1024x35 .f32) (ix2 r o)
      = offsets (rows (V (Proc.devRef .tc main_arg0))) (V (Proc.devRef .tc main_arg3)) (V (Proc.devRef .tc main_arg4)) (binAt V r) r o := by
  refine (congrFun (afterEmbed_of V main_v28 (by decide)) _).trans ?_
  refine (offsets_at (afterHead V) (binAt V) (bins_head V hl) r o).trans ?_
  rw [afterHead_of V main_arg3 (by decide), afterHead_of V main_arg4 (by decide)]
  exact congrArg (fun x => offsets x (V (Proc.devRef .tc main_arg3)) (V (Proc.devRef .tc main_arg4)) (binAt V r) r o)
    (funext fun r => funext fun k => rows_at V r k)

/-- The sampled codebook rows before the decoder's stretch. -/
theorem embed_embed (r : Fin 1024) (d : Fin 256) :
    (afterEmbed V (Proc.devRef .tc main_v46) : FVec Ideal S1024x256 .f32) (ix2 r d)
      = embed (V (Proc.devRef .tc main_arg5)) (binAt V r) d := by
  refine (embed_at (afterOffset V) (binAt V) (fun r g => (congrFun (afterOffset_of V main_v19 (by decide)) _).trans (bins_head V hl r g)) r d).trans ?_
  rw [afterOffset_of V main_arg5 (by decide), afterHead_of V main_arg5 (by decide)]

/-- The decoder over the sampled codebook rows, at a row. -/
abbrev decodedOf (r : Fin 1024) (o : Fin 35) : EReal :=
  decode (embed (V (Proc.devRef .tc main_arg5)) (binAt V r)) (V (Proc.devRef .tc main_arg6)) (V (Proc.devRef .tc main_arg7))
    (V (Proc.devRef .tc main_arg8)) (V (Proc.devRef .tc main_arg9)) (V (Proc.devRef .tc main_arg10)) (V (Proc.devRef .tc main_arg11)) o

/-- The decoder over the contents that it finds is the decoder over the arguments and the sampled codebook rows. -/
theorem decode_embed (r : Fin 1024) (o : Fin 35) :
    decode (fun d => (afterEmbed V (Proc.devRef .tc main_v46) : FVec Ideal S1024x256 .f32) (ix2 r d))
      (afterEmbed V (Proc.devRef .tc main_arg6)) (afterEmbed V (Proc.devRef .tc main_arg7)) (afterEmbed V (Proc.devRef .tc main_arg8))
      (afterEmbed V (Proc.devRef .tc main_arg9)) (afterEmbed V (Proc.devRef .tc main_arg10)) (afterEmbed V (Proc.devRef .tc main_arg11)) o
      = decodedOf V r o := by
  rw [afterEmbed_arg V main_arg6 (by decide), afterEmbed_arg V main_arg7 (by decide), afterEmbed_arg V main_arg8 (by decide),
    afterEmbed_arg V main_arg9 (by decide), afterEmbed_arg V main_arg10 (by decide), afterEmbed_arg V main_arg11 (by decide)]
  exact congrArg (fun z => decode z (V (Proc.devRef .tc main_arg6)) (V (Proc.devRef .tc main_arg7))
    (V (Proc.devRef .tc main_arg8)) (V (Proc.devRef .tc main_arg9)) (V (Proc.devRef .tc main_arg10)) (V (Proc.devRef .tc main_arg11)) o)
    (funext fun d => embed_embed V hl r d)

/-- The fourth result: the decoded actions. -/
theorem result_decoded (r : Fin 1024) (w : Fin 5) (a : Fin 7) :
    (afterDecode V (Proc.devRef .tc main_v61) : FVec Ideal S1024x5x7 .f32) (ix3 r w a) = decodedOf V r ⟨w.val * 7 + a.val, by omega⟩ :=
  (decoded_at (afterEmbed V) r w a).trans (decode_embed V hl r _)

/-- The second result: the predicted actions. -/
theorem result_predicted (n : Fin 64) (t : Fin 16) (o : Fin 35) :
    (afterDecode V (Proc.devRef .tc main_v64) : FVec Ideal S64x16x35 .f32) (ix3 n t o)
      = decodedOf V ⟨n.val * 16 + t.val, by omega⟩ o
        + offsets (rows (V (Proc.devRef .tc main_arg0))) (V (Proc.devRef .tc main_arg3)) (V (Proc.devRef .tc main_arg4))
            (binAt V ⟨n.val * 16 + t.val, by omega⟩) ⟨n.val * 16 + t.val, by omega⟩ o :=
  (predicted_at (afterEmbed V) n t o).trans
    (congrArg₂ (fun u v : EReal => u + v) (decode_embed V hl _ o) (offsets_embed V hl _ o))

end Cert.Reference
-- ==== Proof.Finite.lean ====
module

public import proofs.«01_k».proof.Defs
public import proofs.«01_k».proof.Proof.Softmax
public import Idealize.ShloMosaic.Lib.Pointwise
public import Idealize.ShloMosaic.Lib.ReduceAll

/-!
What the precondition says: every entry of the activations, of the bin head's weights and of its bias is a real
number.
-/

@[expose] public section

set_option maxRecDepth 16384

noncomputable section

namespace Cert.Finite

open Idealize.ShloMosaic
open Cert.Pre_head_is_finite Cert.Pre_head_is_finite.Facts
open Cert.Softmax

variable [Cert.Pre_head_is_finite.Facts]

/-- The word of the bound is the infinity. -/
theorem word_top : Ideal.ofBits .f32 0x7F800000#32 = (⊤ : EReal) := by
  simp [Ideal.ofBits, Ideal.ieee]

/-- The one index of a scalar. -/
instance : Subsingleton S_.Idx := ⟨fun a b => funext fun k => k.elim0⟩

/-- An entry that compares below the infinity in absolute value is a real number. -/
theorem isReal_of_lt {s : Shape} (a : FVec Ideal s .f32) (h : S_.BroadcastsInDim s (![] : Fin 0 → Fin s.rank)) (i : s.Idx)
    (e : cmpf .olt (Host.absf a) (broadcastInDim s ![] h (constant S_ .f32 0x7F800000#32)) i = 1#1) : IsReal (a i) := by
  refine IsReal.of_abs ?_
  have e' : BitVec.ofBool (decide (max (a i) (-(a i)) < Ideal.ofBits .f32 0x7F800000#32)) = 1#1 := e
  rw [word_top] at e'
  by_contra hn
  rw [decide_eq_false hn] at e'
  exact absurd e' (by decide)

/-- The precondition, as a statement of the first three arguments: all their entries are real. -/
theorem of_pre (a0 : FVec Ideal S64x16x1024 .f32) (a1 : FVec Ideal S1024x2048 .f32) (a2 : FVec Ideal S2048 .f32) (a3 : FVec Ideal S1024x71680 .f32)
    (a4 : FVec Ideal S71680 .f32) (a5 : FVec Ideal S2x1024x256 .f32) (a6 : FVec Ideal S256x512 .f32) (a7 : FVec Ideal S512 .f32)
    (a8 : FVec Ideal S512x512 .f32) (a9 : FVec Ideal S512 .f32) (a10 : FVec Ideal S512x35 .f32) (a11 : FVec Ideal S35 .f32)
    (h : fn (F := Ideal) a0 a1 a2 a3 a4 a5 a6 a7 a8 a9 a10 a11 = fun _ => 1#1) :
    (∀ i, IsReal (a0 i)) ∧ (∀ i, IsReal (a1 i)) ∧ ∀ i, IsReal (a2 i) := by
  have h0 := congrFun h ix0
  dsimp only [fn] at h0
  have split : ∀ p q : BitVec 1, IntOp.andi p q = 1#1 → p = 1#1 ∧ q = 1#1 := by decide
  obtain ⟨h01, h2⟩ := split _ _ h0
  obtain ⟨h0, h1⟩ := split _ _ h01
  exact ⟨fun i => isReal_of_lt _ _ _ (Host.reduce_andi_all _ _ _ _ _ h0 i), fun i => isReal_of_lt _ _ _ (Host.reduce_andi_all _ _ _ _ _ h1 i),
    fun i => isReal_of_lt _ _ _ (Host.reduce_andi_all _ _ _ _ _ h2 i)⟩

end Cert.Finite
-- ==== Proof.Agree.lean ====
module

public import proofs.«01_k».proof.Proof.Results
public import proofs.«01_k».proof.Proof.RefResult
public import proofs.«01_k».proof.Proof.Finite
public import proofs.«01_k».proof.Proof.Run
public import proofs.«01_k».proof.Proof.Gen.ReferenceIdeal

/-!
Kernel and reference, result against result: from equal arguments, real where the bin head reads them, both end in
the same four arrays.
-/

@[expose] public section

set_option maxRecDepth 16384

noncomputable section

namespace Cert.Agree

open Idealize.ShloMosaic Idealize.ShloMosaic.TcCoe Idealize.SL.Sem
open Cert.Spec Cert.Softmax

variable [Cert.ReferenceIdeal.Facts]
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
variable (V : Valuation Cert.ReferenceIdeal.τ Cert.ReferenceIdeal.sig (Elt Ideal))

/-- The reference's arguments are the kernel's. -/
structure SameArgs : Prop where
  h0 : V (Proc.devRef .tc Cert.ReferenceIdeal.main_arg0) = m ((c.tc : Thread Cert.KernelIdeal.nD Cert.KernelIdeal.τ).loc Cert.KernelIdeal.main_arg0)
  h1 : V (Proc.devRef .tc Cert.ReferenceIdeal.main_arg1) = m ((c.tc : Thread Cert.KernelIdeal.nD Cert.KernelIdeal.τ).loc Cert.KernelIdeal.main_arg1)
  h2 : V (Proc.devRef .tc Cert.ReferenceIdeal.main_arg2) = m ((c.tc : Thread Cert.KernelIdeal.nD Cert.KernelIdeal.τ).loc Cert.KernelIdeal.main_arg2)
  h3 : V (Proc.devRef .tc Cert.ReferenceIdeal.main_arg3) = m ((c.tc : Thread Cert.KernelIdeal.nD Cert.KernelIdeal.τ).loc Cert.KernelIdeal.main_arg3)
  h4 : V (Proc.devRef .tc Cert.ReferenceIdeal.main_arg4) = m ((c.tc : Thread Cert.KernelIdeal.nD Cert.KernelIdeal.τ).loc Cert.KernelIdeal.main_arg4)
  h5 : V (Proc.devRef .tc Cert.ReferenceIdeal.main_arg5) = m ((c.tc : Thread Cert.KernelIdeal.nD Cert.KernelIdeal.τ).loc Cert.KernelIdeal.main_arg5)
  h6 : V (Proc.devRef .tc Cert.ReferenceIdeal.main_arg6) = m ((c.tc : Thread Cert.KernelIdeal.nD Cert.KernelIdeal.τ).loc Cert.KernelIdeal.main_arg6)
  h7 : V (Proc.devRef .tc Cert.ReferenceIdeal.main_arg7) = m ((c.tc : Thread Cert.KernelIdeal.nD Cert.KernelIdeal.τ).loc Cert.KernelIdeal.main_arg7)
  h8 : V (Proc.devRef .tc Cert.ReferenceIdeal.main_arg8) = m ((c.tc : Thread Cert.KernelIdeal.nD Cert.KernelIdeal.τ).loc Cert.KernelIdeal.main_arg8)
  h9 : V (Proc.devRef .tc Cert.ReferenceIdeal.main_arg9) = m ((c.tc : Thread Cert.KernelIdeal.nD Cert.KernelIdeal.τ).loc Cert.KernelIdeal.main_arg9)
  h10 : V (Proc.devRef .tc Cert.ReferenceIdeal.main_arg10) = m ((c.tc : Thread Cert.KernelIdeal.nD Cert.KernelIdeal.τ).loc Cert.KernelIdeal.main_arg10)
  h11 : V (Proc.devRef .tc Cert.ReferenceIdeal.main_arg11) = m ((c.tc : Thread Cert.KernelIdeal.nD Cert.KernelIdeal.τ).loc Cert.KernelIdeal.main_arg11)

variable {m c V} (e : SameArgs m c V)

include e

/-- The bin heads agree. -/
theorem head (r : Fin 1024) (j : Fin 2048) : Cert.Reference.headAt V r j
    = logit (rows (Cert.KernelValue.argX m c)) (Cert.KernelValue.argWbin m c) (Cert.KernelValue.argBbin m c) r j := by
  unfold Cert.Reference.headAt
  rw [e.h0, e.h1, e.h2]

/-- The sampled bins agree. -/
theorem bins (r : Fin 1024) : Cert.Reference.binAt V r = Cert.KernelValue.bin m c r := by
  funext g
  unfold Cert.Reference.binAt
  rw [e.h0, e.h1, e.h2]

/-- The decoders agree. -/
theorem decoded (r : Fin 1024) (o : Fin 35) : Cert.Reference.decodedOf V r o = Cert.KernelValue.decodedAt m c r o := by
  unfold Cert.Reference.decodedOf
  rw [bins e, e.h5, e.h6, e.h7, e.h8, e.h9, e.h10, e.h11]

/-- The first results agree. -/
theorem logits : Cert.Reference.afterDecode V (Proc.devRef .tc Cert.ReferenceIdeal.main_v5)
    = Cert.KernelIdeal.Gen.W9 m ρ c (Proc.devRef .tc Cert.KernelIdeal.main_v14) := by
  funext i
  obtain ⟨r, g, k, rfl⟩ : ∃ (r : Fin 1024) (g : Fin 2) (k : Fin 1024), i = ix3 r g k := ⟨i 0, i 1, i 2, by
    funext a; fin_cases a <;> rfl⟩
  exact (Cert.Reference.result_logits V r g k).trans ((head e r _).trans (Cert.KernelValue.result_logits m ρ c r g k).symm)

variable (hl : ∀ r j, IsReal (Cert.Reference.headAt V r j))

include hl

/-- The second results agree. -/
theorem predicted : Cert.Reference.afterDecode V (Proc.devRef .tc Cert.ReferenceIdeal.main_v64)
    = Cert.KernelIdeal.Gen.W9 m ρ c (Proc.devRef .tc Cert.KernelIdeal.main_v15) := by
  funext i
  obtain ⟨n, t, o, rfl⟩ : ∃ (n : Fin 64) (t : Fin 16) (o : Fin 35), i = ix3 n t o := ⟨i 0, i 1, i 2, by
    funext a; fin_cases a <;> rfl⟩
  refine (Cert.Reference.result_predicted V hl n t o).trans (Eq.trans ?_ (Cert.KernelValue.result_predicted m ρ c n t o).symm)
  rw [decoded e, bins e, e.h0, e.h3, e.h4]

/-- The third results agree. -/
theorem sampled : Cert.Reference.afterDecode V (Proc.devRef .tc Cert.ReferenceIdeal.main_v19)
    = Cert.KernelIdeal.Gen.W9 m ρ c (Proc.devRef .tc Cert.KernelIdeal.main_v2_1) := by
  funext i
  obtain ⟨r, g, rfl⟩ : ∃ (r : Fin 1024) (g : Fin 2), i = ix2 r g := ⟨i 0, i 1, by
    funext a; fin_cases a <;> rfl⟩
  refine (Cert.Reference.result_bins V hl r g).trans (Eq.trans ?_ (Cert.KernelValue.result_bins m ρ c r g).symm)
  rw [bins e]

/-- The fourth results agree. -/
theorem actions : Cert.Reference.afterDecode V (Proc.devRef .tc Cert.ReferenceIdeal.main_v61)
    = Cert.KernelIdeal.Gen.W9 m ρ c (Proc.devRef .tc Cert.KernelIdeal.main_v16) := by
  funext i
  obtain ⟨r, w, a, rfl⟩ : ∃ (r : Fin 1024) (w : Fin 5) (a : Fin 7), i = ix3 r w a := ⟨i 0, i 1, i 2, by
    funext a; fin_cases a <;> rfl⟩
  exact (Cert.Reference.result_decoded V hl r w a).trans ((decoded e r _).trans (Cert.KernelValue.result_decoded m ρ c r w a).symm)

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_head_is_finite
public import proofs.«01_k».proof.Proof.RefRun
public import proofs.«01_k».proof.Proof.Run
public import proofs.«01_k».proof.Proof.Agree
public import proofs.«01_k».proof.Proof.Finite
public import Idealize.ShloMosaic.Adequacy
public import Idealize.ShloMosaic.Init

@[expose] public section

set_option maxRecDepth 16384

noncomputable section

namespace Cert.Proof

open Idealize.ShloMosaic Idealize.ShloMosaic.TcCoe Idealize.SL.Sem

section
attribute [local instance] Cert.KernelIdeal.Gen.facts Cert.ReferenceIdeal.Gen.facts Cert.Pre_head_is_finite.Gen.facts

/-- Where the bin head's arguments are real, so is every logit. -/
theorem logits_real (m : (ℓ : Loc Cert.KernelIdeal.nD Cert.KernelIdeal.τ Cert.KernelIdeal.sig) → Buf (Elt Ideal) ℓ)
    (hpre : Cert.Pre_KernelIdeal_head_is_finite m) (c : Dev Cert.KernelIdeal.nD)
    {V : Valuation Cert.ReferenceIdeal.τ Cert.ReferenceIdeal.sig (Elt Ideal)} (e : Cert.Agree.SameArgs m c V)
    (r : Fin 1024) (j : Fin 2048) : Cert.Softmax.IsReal (Cert.Reference.headAt V r j) := by
  obtain ⟨hx, hw, hb⟩ := Cert.Finite.of_pre _ _ _ _ _ _ _ _ _ _ _ _ (hpre c)
  rw [Cert.Agree.head e]
  exact Cert.Softmax.logit_isReal _ _ _ (fun r k => hx _) hw hb r j

/-- Kernel and reference compute the same four results. -/
theorem algebraic : Cert.algebraic_KernelIdeal_ReferenceIdeal_pre_head_is_finite := by
  intro m g m' g' hpre harg
  refine ⟨fun c => Cert.KernelIdeal.Gen.W9 m g c (Proc.devRef .tc Cert.KernelIdeal.main_v14),
    fun c => Cert.KernelIdeal.Gen.W9 m g c (Proc.devRef .tc Cert.KernelIdeal.main_v15),
    fun c => Cert.KernelIdeal.Gen.W9 m g c (Proc.devRef .tc Cert.KernelIdeal.main_v2_1),
    fun c => Cert.KernelIdeal.Gen.W9 m g c (Proc.devRef .tc Cert.KernelIdeal.main_v16),
    Cert.KernelValue.run m g, ?_⟩
  refine (θ_run Cert.ReferenceIdeal.defs _ _).mono (fun r h c => ?_) (Cert.Reference.run m' g')
  obtain ⟨h0, h1, h2, h3, h4, h5, h6, h7, h8, h9, h10, h11⟩ := harg c
  have e : Cert.Agree.SameArgs m c (StableHlo.launchContents m' c) := ⟨h0, h1, h2, h3, h4, h5, h6, h7, h8, h9, h10, h11⟩
  have hl := logits_real m hpre c e
  exact ⟨(h c _).trans (Cert.Agree.logits g e), (h c _).trans (Cert.Agree.predicted g e hl),
    (h c _).trans (Cert.Agree.sampled g e hl), (h c _).trans (Cert.Agree.actions g e hl),
    (h c _).trans (Cert.Reference.afterDecode_of _ _ (by decide)), (h c _).trans (Cert.Reference.afterDecode_of _ _ (by decide)),
    (h c _).trans (Cert.Reference.afterDecode_of _ _ (by decide)), (h c _).trans (Cert.Reference.afterDecode_of _ _ (by decide)),
    (h c _).trans (Cert.Reference.afterDecode_of _ _ (by decide)), (h c _).trans (Cert.Reference.afterDecode_of _ _ (by decide)),
    (h c _).trans (Cert.Reference.afterDecode_of _ _ (by decide)), (h c _).trans (Cert.Reference.afterDecode_of _ _ (by decide)),
    (h c _).trans (Cert.Reference.afterDecode_of _ _ (by decide)), (h c _).trans (Cert.Reference.afterDecode_of _ _ (by decide)),
    (h c _).trans (Cert.Reference.afterDecode_of _ _ (by decide)), (h c _).trans (Cert.Reference.afterDecode_of _ _ (by decide))⟩

end

/-- The frames of the three programs, that the ideal program is the kernel's, and that kernel and reference agree. -/
theorem claim : Cert.Claim := ⟨Cert.Kernel.Gen.facts, Cert.KernelIdeal.Gen.facts, Cert.ReferenceIdeal.Gen.facts,
  Cert.Pre_head_is_finite.Gen.facts,
  fun m ρ _ => Cert.Kernel.Gen.frame m ρ, fun m ρ _ => Cert.KernelIdeal.Gen.frame m ρ,
  fun m ρ _ => Cert.KernelIdeal.Gen.frame m ρ,
  fun m ρ _ => Cert.Reference.quiescent m ρ, fun m ρ _ => Cert.Reference.quiescent m ρ, trivial, algebraic⟩

end Cert.Proof

end
